-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "scale" .f32 0x3D13CD3A#32 (((Real.sqrt 768)⁻¹ : ℝ) : EReal)
  ∧ IdealRules.named_const.Statement Cert.KernelIdeal.κ "log_decay" .f32 0xBDD7C741#32 ((Real.log (9 / 10) : ℝ) : EReal)
  ∧ IdealRules.named_const.Statement Cert.KernelIdeal.κ "decay1" .f32 0x3F666666#32 ((9 / 10 : ℝ) : EReal)
  ∧ IdealRules.named_const.Statement Cert.KernelIdeal.κ "decay2" .f32 0x3F4F5C29#32 ((81 / 100 : ℝ) : EReal)
  ∧ IdealRules.named_const.Statement Cert.KernelIdeal.κ "decay3" .f32 0x3F3A9FBE#32 ((729 / 1000 : ℝ) : EReal)
  ∧ IdealRules.named_const.Statement Cert.KernelIdeal.κ "decay4" .f32 0x3F27F62B#32 ((6561 / 10000 : ℝ) : EReal)
  ∧ IdealRules.named_const.Statement Cert.KernelIdeal.κ "decay5" .f32 0x3F172A5A#32 ((59049 / 100000 : ℝ) : EReal)
  ∧ IdealRules.named_const.Statement Cert.KernelIdeal.κ "decay6" .f32 0x3F080C84#32 ((531441 / 1000000 : ℝ) : EReal)
  ∧ IdealRules.named_const.Statement Cert.KernelIdeal.κ "decay7" .f32 0x3EF4E355#32 ((4782969 / 10000000 : ℝ) : EReal)
  ∧ IdealRules.named_const.Statement Cert.KernelIdeal.κ "decay8" .f32 0x3EDC6633#32 ((43046721 / 100000000 : ℝ) : EReal)
  ∧ IdealRules.named_const.Statement Cert.KernelIdeal.κ "decay9" .f32 0x3EC65BFA#32 ((387420489 / 1000000000 : ℝ) : EReal)
  ∧ IdealRules.named_const.Statement Cert.KernelIdeal.κ "tenth" .f32 0x3DCCCCCD#32 ((1 / 10 : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v545) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ preserves_Kernel_KernelIdeal
    ∧ algebraic_KernelIdeal_ReferenceIdeal_pre_finite_values (hKernelIdeal := hKernelIdeal) (hReferenceIdeal := hReferenceIdeal) (hPre_finite_values := hPre_finite_values)
-- ==== Pre_finite_values.lean ====
abbrev S4x2048x768 : Shape := ⟨3, ![4, 2048, 768]⟩
abbrev S16384x768 : Shape := ⟨2, ![16384, 768]⟩
abbrev S16384 : Shape := ⟨1, ![16384]⟩
abbrev S768x768 : Shape := ⟨2, ![768, 768]⟩
abbrev S768 : Shape := ⟨1, ![768]⟩
abbrev S_ : Shape := ⟨0, ![]⟩

class Facts : Prop where
  bcast_S_S16384x768 : S_.BroadcastsInDim S16384x768 (![] : Fin 0 → Fin S16384x768.rank)
  reducesTo_S16384x768_S_d0_1 : S16384x768.ReducesTo [0, 1] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S4x2048x768 .f32) (main_arg1 : FVec F S16384x768 .f32) (main_arg2 : FVec F S16384x768 .f32) (main_arg3 : FVec F S16384 .f32) (main_arg4 : FVec F S768x768 .f32) (main_arg5 : FVec F S768 .f32) (main_arg6 : FVec F S768x768 .f32) (main_arg7 : FVec F S768 .f32) (main_arg8 : IVec S16384 32) (main_arg9 : IVec S16384 1) : IVec S_ 1 :=
  let main_v0 : FVec F S16384x768 .f32 := Host.absf main_arg2
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_c : IVec S_ 1 := constantI S_ 1 1#1
  let main_v3 : IVec S_ 1 := (fun x v => Host.reduce IntOp.andi x v reducesTo_S16384x768_S_d0_1 h_S_) main_v2 main_c
  let main_v4 : FVec F S768x768 .f32 := Host.absf main_arg6
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  main_v8
-- ==== Kernel.lean ====
abbrev S4x2048x768 : Shape := ⟨3, ![4, 2048, 768]⟩
abbrev S16384x768 : Shape := ⟨2, ![16384, 768]⟩
abbrev S16384 : Shape := ⟨1, ![16384]⟩
abbrev S768x768 : Shape := ⟨2, ![768, 768]⟩
abbrev S768 : Shape := ⟨1, ![768]⟩
abbrev S8x1x2048 : Shape := ⟨3, ![8, 1, 2048]⟩
abbrev S1x768 : Shape := ⟨2, ![1, 768]⟩
abbrev S4x768 : Shape := ⟨2, ![4, 768]⟩
abbrev S4x256x768 : Shape := ⟨3, ![4, 256, 768]⟩
abbrev S2048x768 : Shape := ⟨2, ![2048, 768]⟩
abbrev S8x4x2048 : Shape := ⟨3, ![8, 4, 2048]⟩
abbrev S4x2048 : Shape := ⟨2, ![4, 2048]⟩
abbrev S1x4x2048 : Shape := ⟨3, ![1, 4, 2048]⟩
abbrev S4 : Shape := ⟨1, ![4]⟩
abbrev S1x4x1 : Shape := ⟨3, ![1, 4, 1]⟩

abbrev nBuf : Space → Nat
  | .hbm => 18
  | .vmem => 18
  | .smem => 0
  | _ => 0

abbrev bufTy : (tb : Table) → Fin (tcTables nBuf tb) → BufTy
  | .hbm, ⟨0, _⟩ => ⟨S4x2048x768, .f32⟩
  | .hbm, ⟨1, _⟩ => ⟨S16384x768, .f32⟩
  | .hbm, ⟨2, _⟩ => ⟨S16384x768, .f32⟩
  | .hbm, ⟨3, _⟩ => ⟨S16384, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S16384, .i32⟩
  | .hbm, ⟨9, _⟩ => ⟨S16384, .i1⟩
  | .hbm, ⟨10, _⟩ => ⟨S8x1x2048, .f32⟩
  | .hbm, ⟨11, _⟩ => ⟨S16384, .f32⟩
  | .hbm, ⟨12, _⟩ => ⟨S8x1x2048, .f32⟩
  | .hbm, ⟨13, _⟩ => ⟨S16384, .f32⟩
  | .hbm, ⟨14, _⟩ => ⟨S8x1x2048, .f32⟩
  | .hbm, ⟨15, _⟩ => ⟨S1x768, .f32⟩
  | .hbm, ⟨16, _⟩ => ⟨S1x768, .f32⟩
  | .hbm, ⟨17, _⟩ => ⟨S4x768, .f32⟩
  | .local _ .vmem, ⟨0, _⟩ => ⟨S4x256x768, .f32⟩
  | .local _ .vmem, ⟨1, _⟩ => ⟨S4x256x768, .f32⟩
  | .local _ .vmem, ⟨2, _⟩ => ⟨S2048x768, .f32⟩
  | .local _ .vmem, ⟨3, _⟩ => ⟨S2048x768, .f32⟩
  | .local _ .vmem, ⟨4, _⟩ => ⟨S2048x768, .f32⟩
  | .local _ .vmem, ⟨5, _⟩ => ⟨S2048x768, .f32⟩
  | .local _ .vmem, ⟨6, _⟩ => ⟨S8x1x2048, .f32⟩
  | .local _ .vmem, ⟨7, _⟩ => ⟨S8x1x2048, .f32⟩
  | .local _ .vmem, ⟨8, _⟩ => ⟨S8x1x2048, .f32⟩
  | .local _ .vmem, ⟨9, _⟩ => ⟨S768x768, .f32⟩
  | .local _ .vmem, ⟨10, _⟩ => ⟨S1x768, .f32⟩
  | .local _ .vmem, ⟨11, _⟩ => ⟨S768x768, .f32⟩
  | .local _ .vmem, ⟨12, _⟩ => ⟨S1x768, .f32⟩
  | .local _ .vmem, ⟨13, _⟩ => ⟨S4x768, .f32⟩
  | .local _ .vmem, ⟨14, _⟩ => ⟨S4x768, .f32⟩
  | .local _ .vmem, ⟨15, _⟩ => ⟨S8x4x2048, .f32⟩
  | .local _ .vmem, ⟨16, _⟩ => ⟨S8x4x2048, .f32⟩
  | .local _ .vmem, ⟨17, _⟩ => ⟨S4x768, .f32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨2, ![3, 8], ![false, false]⟩

def k0_cond4 (i : grid0.Coords) : BitVec 1 :=
  let arg0 : BitVec 32 := BitVec.ofNat 32 (i 0).val
  let c1_i32_6 : BitVec 32 := 1#32
  let v13 : BitVec 1 := Scalar.cmpi .eq arg0 c1_i32_6
  let v14 : BitVec 32 := Scalar.extui v13
  let c0_i32_7 : BitVec 32 := 0#32
  let v15 : BitVec 1 := Scalar.cmpi .ne v14 c0_i32_7
  v15

def k0_off1 (i : grid0.Coords) : Fin 3 → Nat :=
  let arg1 : BitVec 32 := BitVec.ofNat 32 (i 1).val
  let v34 : Index := Scalar.indexCast arg1
  let c0_18 : Index := 0#32
  let c0_19 : Index := 0#32
  ![v34.toNat, 0, 0]
def k0_cond6 (i : grid0.Coords) : BitVec 1 :=
  let arg0 : BitVec 32 := BitVec.ofNat 32 (i 0).val
  let c2_i32_10 : BitVec 32 := 2#32
  let v21 : BitVec 1 := Scalar.cmpi .eq arg0 c2_i32_10
  let v22 : BitVec 32 := Scalar.extui v21
  let c0_i32_11 : BitVec 32 := 0#32
  let v23 : BitVec 1 := Scalar.cmpi .ne v22 c0_i32_11
  v23

def k0_off2 (i : grid0.Coords) : Fin 3 → Nat :=
  let arg1 : BitVec 32 := BitVec.ofNat 32 (i 1).val
  let v30 : Index := Scalar.indexCast arg1
  let c0_15 : Index := 0#32
  let c0_16 : Index := 0#32
  ![v30.toNat, 0, 0]
def k0_cond7 (i : grid0.Coords) : BitVec 1 :=
  let arg0 : BitVec 32 := BitVec.ofNat 32 (i 0).val
  let c2_i32_12 : BitVec 32 := 2#32
  let v24 : BitVec 1 := Scalar.cmpi .eq arg0 c2_i32_12
  let arg1 : BitVec 32 := BitVec.ofNat 32 (i 1).val
  let c7_i32 : BitVec 32 := 7#32
  let v25 : BitVec 1 := Scalar.cmpi .eq arg1 c7_i32
  let v26 : BitVec 1 := Scalar.andi v24 v25
  let v27 : BitVec 32 := Scalar.extui v26
  let c0_i32_13 : BitVec 32 := 0#32
  let v28 : BitVec 1 := Scalar.cmpi .ne v27 c0_i32_13
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 1 := Scalar.cmpi .eq arg0 c0_i32
  let c0_i32_0 : BitVec 32 := 0#32
  let c7_i32 : BitVec 32 := 7#32
  let v2 : BitVec 32 := Scalar.select v1 c0_i32_0 c7_i32
  let v3 : BitVec 32 := Scalar.select v0 arg1 v2
  let c0_i32_1 : BitVec 32 := 0#32
  let c0_i32_2 : BitVec 32 := 0#32
  ![v3.toNat, c0_i32_1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== KernelIdeal.lean ====
variable {F : FTy → Type} [FloatOps F] [Named F]
def κ : String → Option EReal := fun
  | "decay1" => some ((9 / 10 : ℝ) : EReal)
  | "decay2" => some ((81 / 100 : ℝ) : EReal)
  | "decay3" => some ((729 / 1000 : ℝ) : EReal)
  | "decay4" => some ((6561 / 10000 : ℝ) : EReal)
  | "decay5" => some ((59049 / 100000 : ℝ) : EReal)
  | "decay6" => some ((531441 / 1000000 : ℝ) : EReal)
  | "decay7" => some ((4782969 / 10000000 : ℝ) : EReal)
  | "decay8" => some ((43046721 / 100000000 : ℝ) : EReal)
  | "decay9" => some ((387420489 / 1000000000 : ℝ) : EReal)
  | "log_decay" => some ((Real.log (9 / 10) : ℝ) : EReal)
  | "scale" => some (((Real.sqrt 768)⁻¹ : ℝ) : EReal)
  | "tenth" => some ((1 / 10 : ℝ) : EReal)
  | _ => none
-- ==== ReferenceIdeal.lean ====
abbrev S4x2048x768 : Shape := ⟨3, ![4, 2048, 768]⟩
abbrev S16384x768 : Shape := ⟨2, ![16384, 768]⟩
abbrev S16384 : Shape := ⟨1, ![16384]⟩
abbrev S768x768 : Shape := ⟨2, ![768, 768]⟩
abbrev S768 : Shape := ⟨1, ![768]⟩
abbrev S_ : Shape := ⟨0, ![]⟩
abbrev S4x768 : Shape := ⟨2, ![4, 768]⟩
abbrev S1x768 : Shape := ⟨2, ![1, 768]⟩
abbrev S768x16384 : Shape := ⟨2, ![768, 16384]⟩
abbrev S4x16384 : Shape := ⟨2, ![4, 16384]⟩
abbrev S1x16384 : Shape := ⟨2, ![1, 16384]⟩
abbrev S4 : Shape := ⟨1, ![4]⟩
abbrev S4x1 : Shape := ⟨2, ![4, 1]⟩

abbrev nBuf : Space → Nat
  | .hbm => 674
  | .vmem => 0
  | .smem => 0
  | _ => 0

abbrev hbmTy0_0 (i : Nat) : BufTy := match i % 128 with
  | 0 => ⟨S4x2048x768, .f32⟩
  | 1 => ⟨S16384x768, .f32⟩
  | 2 => ⟨S16384x768, .f32⟩
  | 3 => ⟨S16384, .f32⟩
  | 4 => ⟨S768x768, .f32⟩
  | 5 => ⟨S768, .f32⟩
  | 6 => ⟨S768x768, .f32⟩
  | 7 => ⟨S768, .f32⟩
  | 8 => ⟨S16384, .i32⟩
  | 9 => ⟨S16384, .i1⟩
  | 10 => ⟨S_, .f32⟩
  | 11 => ⟨S4x768, .f32⟩
  | 12 => ⟨S_, .f32⟩
  | 13 => ⟨S4x768, .f32⟩
  | 14 => ⟨S4x768, .f32⟩
  | 15 => ⟨S768x768, .f32⟩
  | 16 => ⟨S4x768, .f32⟩
  | 17 => ⟨S1x768, .f32⟩
  | 18 => ⟨S4x768, .f32⟩
  | 19 => ⟨S4x768, .f32⟩
  | 20 => ⟨S16384, .f32⟩
  | 21 => ⟨S16384, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S4x768, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S768x16384, .f32⟩
  | 50 => ⟨S4x16384, .f32⟩
  | 51 => ⟨S4x16384, .f32⟩
  | 52 => ⟨S4x16384, .f32⟩
  | 53 => ⟨S_, .f32⟩
  | 54 => ⟨S16384, .f32⟩
  | 55 => ⟨S16384, .f32⟩
  | 56 => ⟨S16384, .f32⟩
  | 57 => ⟨S1x16384, .f32⟩
  | 58 => ⟨S4x16384, .f32⟩
  | 59 => ⟨S4x16384, .f32⟩
  | 60 => ⟨S_, .f32⟩
  | 61 => ⟨S4, .f32⟩
  | 62 => ⟨S_, .f32⟩
  | 63 => ⟨S4, .f32⟩
  | 64 => ⟨S4, .f32⟩
  | 65 => ⟨S4x1, .f32⟩
  | 66 => ⟨S4x16384, .f32⟩
  | 67 => ⟨S4x16384, .f32⟩
  | 68 => ⟨S4x16384, .f32⟩
  | 69 => ⟨S_, .f32⟩
  | 70 => ⟨S4, .f32⟩
  | 71 => ⟨S4x1, .f32⟩
  | 72 => ⟨S4x16384, .f32⟩
  | 73 => ⟨S4x16384, .f32⟩
  | 74 => ⟨S1x16384, .f32⟩
  | 75 => ⟨S4x16384, .f32⟩
  | 76 => ⟨S4x16384, .f32⟩
  | 77 => ⟨S_, .f32⟩
  | 78 => ⟨S4, .f32⟩
  | 79 => ⟨S4x1, .f32⟩
  | 80 => ⟨S_, .f32⟩
  | 81 => ⟨S4x1, .f32⟩
  | 82 => ⟨S4x1, .f32⟩
  | 83 => ⟨S4x16384, .f32⟩
  | 84 => ⟨S4x16384, .f32⟩
  | 85 => ⟨S4x768, .f32⟩
  | 86 => ⟨S768x768, .f32⟩
  | 87 => ⟨S4x768, .f32⟩
  | 88 => ⟨S1x768, .f32⟩
  | 89 => ⟨S4x768, .f32⟩
  | 90 => ⟨S4x768, .f32⟩
  | 91 => ⟨S4x768, .f32⟩
  | 92 => ⟨S_, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384, .f32⟩
  | 113 => ⟨S768x16384, .f32⟩
  | 114 => ⟨S4x16384, .f32⟩
  | 115 => ⟨S4x16384, .f32⟩
  | 116 => ⟨S4x16384, .f32⟩
  | 117 => ⟨S_, .f32⟩
  | 118 => ⟨S16384, .f32⟩
  | 119 => ⟨S16384, .f32⟩
  | 120 => ⟨S16384, .f32⟩
  | 121 => ⟨S1x16384, .f32⟩
  | 122 => ⟨S4x16384, .f32⟩
  | 123 => ⟨S4x16384, .f32⟩
  | 124 => ⟨S_, .f32⟩
  | 125 => ⟨S4, .f32⟩
  | 126 => ⟨S_, .f32⟩
  | 127 => ⟨S4, .f32⟩
  | _ => ⟨S4x2048x768, .f32⟩

abbrev hbmTy0_1 (i : Nat) : BufTy := match i % 128 with
  | 0 => ⟨S4, .f32⟩
  | 1 => ⟨S4x1, .f32⟩
  | 2 => ⟨S4x16384, .f32⟩
  | 3 => ⟨S4x16384, .f32⟩
  | 4 => ⟨S4x16384, .f32⟩
  | 5 => ⟨S_, .f32⟩
  | 6 => ⟨S4, .f32⟩
  | 7 => ⟨S4x1, .f32⟩
  | 8 => ⟨S4x16384, .f32⟩
  | 9 => ⟨S4x16384, .f32⟩
  | 10 => ⟨S1x16384, .f32⟩
  | 11 => ⟨S4x16384, .f32⟩
  | 12 => ⟨S4x16384, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x16384, .f32⟩
  | 20 => ⟨S4x16384, .f32⟩
  | 21 => ⟨S4x768, .f32⟩
  | 22 => ⟨S768x768, .f32⟩
  | 23 => ⟨S4x768, .f32⟩
  | 24 => ⟨S1x768, .f32⟩
  | 25 => ⟨S4x768, .f32⟩
  | 26 => ⟨S4x768, .f32⟩
  | 27 => ⟨S4x768, .f32⟩
  | 28 => ⟨S_, .f32⟩
  | 29 => ⟨S16384, .f32⟩
  | 30 => ⟨S16384, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S768x16384, .f32⟩
  | 50 => ⟨S4x16384, .f32⟩
  | 51 => ⟨S4x16384, .f32⟩
  | 52 => ⟨S4x16384, .f32⟩
  | 53 => ⟨S_, .f32⟩
  | 54 => ⟨S16384, .f32⟩
  | 55 => ⟨S16384, .f32⟩
  | 56 => ⟨S16384, .f32⟩
  | 57 => ⟨S1x16384, .f32⟩
  | 58 => ⟨S4x16384, .f32⟩
  | 59 => ⟨S4x16384, .f32⟩
  | 60 => ⟨S_, .f32⟩
  | 61 => ⟨S4, .f32⟩
  | 62 => ⟨S_, .f32⟩
  | 63 => ⟨S4, .f32⟩
  | 64 => ⟨S4, .f32⟩
  | 65 => ⟨S4x1, .f32⟩
  | 66 => ⟨S4x16384, .f32⟩
  | 67 => ⟨S4x16384, .f32⟩
  | 68 => ⟨S4x16384, .f32⟩
  | 69 => ⟨S_, .f32⟩
  | 70 => ⟨S4, .f32⟩
  | 71 => ⟨S4x1, .f32⟩
  | 72 => ⟨S4x16384, .f32⟩
  | 73 => ⟨S4x16384, .f32⟩
  | 74 => ⟨S1x16384, .f32⟩
  | 75 => ⟨S4x16384, .f32⟩
  | 76 => ⟨S4x16384, .f32⟩
  | 77 => ⟨S_, .f32⟩
  | 78 => ⟨S4, .f32⟩
  | 79 => ⟨S4x1, .f32⟩
  | 80 => ⟨S_, .f32⟩
  | 81 => ⟨S4x1, .f32⟩
  | 82 => ⟨S4x1, .f32⟩
  | 83 => ⟨S4x16384, .f32⟩
  | 84 => ⟨S4x16384, .f32⟩
  | 85 => ⟨S4x768, .f32⟩
  | 86 => ⟨S768x768, .f32⟩
  | 87 => ⟨S4x768, .f32⟩
  | 88 => ⟨S1x768, .f32⟩
  | 89 => ⟨S4x768, .f32⟩
  | 90 => ⟨S4x768, .f32⟩
  | 91 => ⟨S4x768, .f32⟩
  | 92 => ⟨S_, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384, .f32⟩
  | 113 => ⟨S768x16384, .f32⟩
  | 114 => ⟨S4x16384, .f32⟩
  | 115 => ⟨S4x16384, .f32⟩
  | 116 => ⟨S4x16384, .f32⟩
  | 117 => ⟨S_, .f32⟩
  | 118 => ⟨S16384, .f32⟩
  | 119 => ⟨S16384, .f32⟩
  | 120 => ⟨S16384, .f32⟩
  | 121 => ⟨S1x16384, .f32⟩
  | 122 => ⟨S4x16384, .f32⟩
  | 123 => ⟨S4x16384, .f32⟩
  | 124 => ⟨S_, .f32⟩
  | 125 => ⟨S4, .f32⟩
  | 126 => ⟨S_, .f32⟩
  | 127 => ⟨S4, .f32⟩
  | _ => ⟨S4x2048x768, .f32⟩

abbrev hbmTy0_2 (i : Nat) : BufTy := match i % 128 with
  | 0 => ⟨S4, .f32⟩
  | 1 => ⟨S4x1, .f32⟩
  | 2 => ⟨S4x16384, .f32⟩
  | 3 => ⟨S4x16384, .f32⟩
  | 4 => ⟨S4x16384, .f32⟩
  | 5 => ⟨S_, .f32⟩
  | 6 => ⟨S4, .f32⟩
  | 7 => ⟨S4x1, .f32⟩
  | 8 => ⟨S4x16384, .f32⟩
  | 9 => ⟨S4x16384, .f32⟩
  | 10 => ⟨S1x16384, .f32⟩
  | 11 => ⟨S4x16384, .f32⟩
  | 12 => ⟨S4x16384, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x16384, .f32⟩
  | 20 => ⟨S4x16384, .f32⟩
  | 21 => ⟨S4x768, .f32⟩
  | 22 => ⟨S768x768, .f32⟩
  | 23 => ⟨S4x768, .f32⟩
  | 24 => ⟨S1x768, .f32⟩
  | 25 => ⟨S4x768, .f32⟩
  | 26 => ⟨S4x768, .f32⟩
  | 27 => ⟨S4x768, .f32⟩
  | 28 => ⟨S_, .f32⟩
  | 29 => ⟨S16384, .f32⟩
  | 30 => ⟨S16384, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S768x16384, .f32⟩
  | 50 => ⟨S4x16384, .f32⟩
  | 51 => ⟨S4x16384, .f32⟩
  | 52 => ⟨S4x16384, .f32⟩
  | 53 => ⟨S_, .f32⟩
  | 54 => ⟨S16384, .f32⟩
  | 55 => ⟨S16384, .f32⟩
  | 56 => ⟨S16384, .f32⟩
  | 57 => ⟨S1x16384, .f32⟩
  | 58 => ⟨S4x16384, .f32⟩
  | 59 => ⟨S4x16384, .f32⟩
  | 60 => ⟨S_, .f32⟩
  | 61 => ⟨S4, .f32⟩
  | 62 => ⟨S_, .f32⟩
  | 63 => ⟨S4, .f32⟩
  | 64 => ⟨S4, .f32⟩
  | 65 => ⟨S4x1, .f32⟩
  | 66 => ⟨S4x16384, .f32⟩
  | 67 => ⟨S4x16384, .f32⟩
  | 68 => ⟨S4x16384, .f32⟩
  | 69 => ⟨S_, .f32⟩
  | 70 => ⟨S4, .f32⟩
  | 71 => ⟨S4x1, .f32⟩
  | 72 => ⟨S4x16384, .f32⟩
  | 73 => ⟨S4x16384, .f32⟩
  | 74 => ⟨S1x16384, .f32⟩
  | 75 => ⟨S4x16384, .f32⟩
  | 76 => ⟨S4x16384, .f32⟩
  | 77 => ⟨S_, .f32⟩
  | 78 => ⟨S4, .f32⟩
  | 79 => ⟨S4x1, .f32⟩
  | 80 => ⟨S_, .f32⟩
  | 81 => ⟨S4x1, .f32⟩
  | 82 => ⟨S4x1, .f32⟩
  | 83 => ⟨S4x16384, .f32⟩
  | 84 => ⟨S4x16384, .f32⟩
  | 85 => ⟨S4x768, .f32⟩
  | 86 => ⟨S768x768, .f32⟩
  | 87 => ⟨S4x768, .f32⟩
  | 88 => ⟨S1x768, .f32⟩
  | 89 => ⟨S4x768, .f32⟩
  | 90 => ⟨S4x768, .f32⟩
  | 91 => ⟨S4x768, .f32⟩
  | 92 => ⟨S_, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384, .f32⟩
  | 113 => ⟨S768x16384, .f32⟩
  | 114 => ⟨S4x16384, .f32⟩
  | 115 => ⟨S4x16384, .f32⟩
  | 116 => ⟨S4x16384, .f32⟩
  | 117 => ⟨S_, .f32⟩
  | 118 => ⟨S16384, .f32⟩
  | 119 => ⟨S16384, .f32⟩
  | 120 => ⟨S16384, .f32⟩
  | 121 => ⟨S1x16384, .f32⟩
  | 122 => ⟨S4x16384, .f32⟩
  | 123 => ⟨S4x16384, .f32⟩
  | 124 => ⟨S_, .f32⟩
  | 125 => ⟨S4, .f32⟩
  | 126 => ⟨S_, .f32⟩
  | 127 => ⟨S4, .f32⟩
  | _ => ⟨S4x2048x768, .f32⟩

abbrev hbmTy0_3 (i : Nat) : BufTy := match i % 128 with
  | 0 => ⟨S4, .f32⟩
  | 1 => ⟨S4x1, .f32⟩
  | 2 => ⟨S4x16384, .f32⟩
  | 3 => ⟨S4x16384, .f32⟩
  | 4 => ⟨S4x16384, .f32⟩
  | 5 => ⟨S_, .f32⟩
  | 6 => ⟨S4, .f32⟩
  | 7 => ⟨S4x1, .f32⟩
  | 8 => ⟨S4x16384, .f32⟩
  | 9 => ⟨S4x16384, .f32⟩
  | 10 => ⟨S1x16384, .f32⟩
  | 11 => ⟨S4x16384, .f32⟩
  | 12 => ⟨S4x16384, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x16384, .f32⟩
  | 20 => ⟨S4x16384, .f32⟩
  | 21 => ⟨S4x768, .f32⟩
  | 22 => ⟨S768x768, .f32⟩
  | 23 => ⟨S4x768, .f32⟩
  | 24 => ⟨S1x768, .f32⟩
  | 25 => ⟨S4x768, .f32⟩
  | 26 => ⟨S4x768, .f32⟩
  | 27 => ⟨S4x768, .f32⟩
  | 28 => ⟨S_, .f32⟩
  | 29 => ⟨S16384, .f32⟩
  | 30 => ⟨S16384, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S768x16384, .f32⟩
  | 50 => ⟨S4x16384, .f32⟩
  | 51 => ⟨S4x16384, .f32⟩
  | 52 => ⟨S4x16384, .f32⟩
  | 53 => ⟨S_, .f32⟩
  | 54 => ⟨S16384, .f32⟩
  | 55 => ⟨S16384, .f32⟩
  | 56 => ⟨S16384, .f32⟩
  | 57 => ⟨S1x16384, .f32⟩
  | 58 => ⟨S4x16384, .f32⟩
  | 59 => ⟨S4x16384, .f32⟩
  | 60 => ⟨S_, .f32⟩
  | 61 => ⟨S4, .f32⟩
  | 62 => ⟨S_, .f32⟩
  | 63 => ⟨S4, .f32⟩
  | 64 => ⟨S4, .f32⟩
  | 65 => ⟨S4x1, .f32⟩
  | 66 => ⟨S4x16384, .f32⟩
  | 67 => ⟨S4x16384, .f32⟩
  | 68 => ⟨S4x16384, .f32⟩
  | 69 => ⟨S_, .f32⟩
  | 70 => ⟨S4, .f32⟩
  | 71 => ⟨S4x1, .f32⟩
  | 72 => ⟨S4x16384, .f32⟩
  | 73 => ⟨S4x16384, .f32⟩
  | 74 => ⟨S1x16384, .f32⟩
  | 75 => ⟨S4x16384, .f32⟩
  | 76 => ⟨S4x16384, .f32⟩
  | 77 => ⟨S_, .f32⟩
  | 78 => ⟨S4, .f32⟩
  | 79 => ⟨S4x1, .f32⟩
  | 80 => ⟨S_, .f32⟩
  | 81 => ⟨S4x1, .f32⟩
  | 82 => ⟨S4x1, .f32⟩
  | 83 => ⟨S4x16384, .f32⟩
  | 84 => ⟨S4x16384, .f32⟩
  | 85 => ⟨S4x768, .f32⟩
  | 86 => ⟨S768x768, .f32⟩
  | 87 => ⟨S4x768, .f32⟩
  | 88 => ⟨S1x768, .f32⟩
  | 89 => ⟨S4x768, .f32⟩
  | 90 => ⟨S4x768, .f32⟩
  | 91 => ⟨S4x768, .f32⟩
  | 92 => ⟨S_, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384, .f32⟩
  | 113 => ⟨S768x16384, .f32⟩
  | 114 => ⟨S4x16384, .f32⟩
  | 115 => ⟨S4x16384, .f32⟩
  | 116 => ⟨S4x16384, .f32⟩
  | 117 => ⟨S_, .f32⟩
  | 118 => ⟨S16384, .f32⟩
  | 119 => ⟨S16384, .f32⟩
  | 120 => ⟨S16384, .f32⟩
  | 121 => ⟨S1x16384, .f32⟩
  | 122 => ⟨S4x16384, .f32⟩
  | 123 => ⟨S4x16384, .f32⟩
  | 124 => ⟨S_, .f32⟩
  | 125 => ⟨S4, .f32⟩
  | 126 => ⟨S_, .f32⟩
  | 127 => ⟨S4, .f32⟩
  | _ => ⟨S4x2048x768, .f32⟩

abbrev hbmTy0_4 (i : Nat) : BufTy := match i % 128 with
  | 0 => ⟨S4, .f32⟩
  | 1 => ⟨S4x1, .f32⟩
  | 2 => ⟨S4x16384, .f32⟩
  | 3 => ⟨S4x16384, .f32⟩
  | 4 => ⟨S4x16384, .f32⟩
  | 5 => ⟨S_, .f32⟩
  | 6 => ⟨S4, .f32⟩
  | 7 => ⟨S4x1, .f32⟩
  | 8 => ⟨S4x16384, .f32⟩
  | 9 => ⟨S4x16384, .f32⟩
  | 10 => ⟨S1x16384, .f32⟩
  | 11 => ⟨S4x16384, .f32⟩
  | 12 => ⟨S4x16384, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x16384, .f32⟩
  | 20 => ⟨S4x16384, .f32⟩
  | 21 => ⟨S4x768, .f32⟩
  | 22 => ⟨S768x768, .f32⟩
  | 23 => ⟨S4x768, .f32⟩
  | 24 => ⟨S1x768, .f32⟩
  | 25 => ⟨S4x768, .f32⟩
  | 26 => ⟨S4x768, .f32⟩
  | 27 => ⟨S4x768, .f32⟩
  | 28 => ⟨S_, .f32⟩
  | 29 => ⟨S16384, .f32⟩
  | 30 => ⟨S16384, .f32⟩
  | 31 => ⟨S16384, .f32⟩
  | 32 => ⟨S16384, .f32⟩
  | 33 => ⟨S16384, .f32⟩
  | 34 => ⟨S_, .f32⟩
  | 35 => ⟨S16384, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S_, .f32⟩
  | 43 => ⟨S16384, .f32⟩
  | 44 => ⟨S16384, .f32⟩
  | 45 => ⟨S_, .f32⟩
  | 46 => ⟨S16384, .f32⟩
  | 47 => ⟨S16384, .f32⟩
  | 48 => ⟨S16384, .f32⟩
  | 49 => ⟨S768x16384, .f32⟩
  | 50 => ⟨S4x16384, .f32⟩
  | 51 => ⟨S4x16384, .f32⟩
  | 52 => ⟨S4x16384, .f32⟩
  | 53 => ⟨S_, .f32⟩
  | 54 => ⟨S16384, .f32⟩
  | 55 => ⟨S16384, .f32⟩
  | 56 => ⟨S16384, .f32⟩
  | 57 => ⟨S1x16384, .f32⟩
  | 58 => ⟨S4x16384, .f32⟩
  | 59 => ⟨S4x16384, .f32⟩
  | 60 => ⟨S_, .f32⟩
  | 61 => ⟨S4, .f32⟩
  | 62 => ⟨S_, .f32⟩
  | 63 => ⟨S4, .f32⟩
  | 64 => ⟨S4, .f32⟩
  | 65 => ⟨S4x1, .f32⟩
  | 66 => ⟨S4x16384, .f32⟩
  | 67 => ⟨S4x16384, .f32⟩
  | 68 => ⟨S4x16384, .f32⟩
  | 69 => ⟨S_, .f32⟩
  | 70 => ⟨S4, .f32⟩
  | 71 => ⟨S4x1, .f32⟩
  | 72 => ⟨S4x16384, .f32⟩
  | 73 => ⟨S4x16384, .f32⟩
  | 74 => ⟨S1x16384, .f32⟩
  | 75 => ⟨S4x16384, .f32⟩
  | 76 => ⟨S4x16384, .f32⟩
  | 77 => ⟨S_, .f32⟩
  | 78 => ⟨S4, .f32⟩
  | 79 => ⟨S4x1, .f32⟩
  | 80 => ⟨S_, .f32⟩
  | 81 => ⟨S4x1, .f32⟩
  | 82 => ⟨S4x1, .f32⟩
  | 83 => ⟨S4x16384, .f32⟩
  | 84 => ⟨S4x16384, .f32⟩
  | 85 => ⟨S4x768, .f32⟩
  | 86 => ⟨S768x768, .f32⟩
  | 87 => ⟨S4x768, .f32⟩
  | 88 => ⟨S1x768, .f32⟩
  | 89 => ⟨S4x768, .f32⟩
  | 90 => ⟨S4x768, .f32⟩
  | 91 => ⟨S4x768, .f32⟩
  | 92 => ⟨S_, .f32⟩
  | 93 => ⟨S16384, .f32⟩
  | 94 => ⟨S16384, .f32⟩
  | 95 => ⟨S16384, .f32⟩
  | 96 => ⟨S16384, .f32⟩
  | 97 => ⟨S16384, .f32⟩
  | 98 => ⟨S_, .f32⟩
  | 99 => ⟨S16384, .f32⟩
  | 100 => ⟨S16384, .f32⟩
  | 101 => ⟨S_, .f32⟩
  | 102 => ⟨S16384, .f32⟩
  | 103 => ⟨S16384, .f32⟩
  | 104 => ⟨S16384, .f32⟩
  | 105 => ⟨S16384, .f32⟩
  | 106 => ⟨S_, .f32⟩
  | 107 => ⟨S16384, .f32⟩
  | 108 => ⟨S16384, .f32⟩
  | 109 => ⟨S_, .f32⟩
  | 110 => ⟨S16384, .f32⟩
  | 111 => ⟨S16384, .f32⟩
  | 112 => ⟨S16384, .f32⟩
  | 113 => ⟨S768x16384, .f32⟩
  | 114 => ⟨S4x16384, .f32⟩
  | 115 => ⟨S4x16384, .f32⟩
  | 116 => ⟨S4x16384, .f32⟩
  | 117 => ⟨S_, .f32⟩
  | 118 => ⟨S16384, .f32⟩
  | 119 => ⟨S16384, .f32⟩
  | 120 => ⟨S16384, .f32⟩
  | 121 => ⟨S1x16384, .f32⟩
  | 122 => ⟨S4x16384, .f32⟩
  | 123 => ⟨S4x16384, .f32⟩
  | 124 => ⟨S_, .f32⟩
  | 125 => ⟨S4, .f32⟩
  | 126 => ⟨S_, .f32⟩
  | 127 => ⟨S4, .f32⟩
  | _ => ⟨S4x2048x768, .f32⟩

abbrev hbmTy0_5 (i : Nat) : BufTy := match i % 128 with
  | 0 => ⟨S4, .f32⟩
  | 1 => ⟨S4x1, .f32⟩
  | 2 => ⟨S4x16384, .f32⟩
  | 3 => ⟨S4x16384, .f32⟩
  | 4 => ⟨S4x16384, .f32⟩
  | 5 => ⟨S_, .f32⟩
  | 6 => ⟨S4, .f32⟩
  | 7 => ⟨S4x1, .f32⟩
  | 8 => ⟨S4x16384, .f32⟩
  | 9 => ⟨S4x16384, .f32⟩
  | 10 => ⟨S1x16384, .f32⟩
  | 11 => ⟨S4x16384, .f32⟩
  | 12 => ⟨S4x16384, .f32⟩
  | 13 => ⟨S_, .f32⟩
  | 14 => ⟨S4, .f32⟩
  | 15 => ⟨S4x1, .f32⟩
  | 16 => ⟨S_, .f32⟩
  | 17 => ⟨S4x1, .f32⟩
  | 18 => ⟨S4x1, .f32⟩
  | 19 => ⟨S4x16384, .f32⟩
  | 20 => ⟨S4x16384, .f32⟩
  | 21 => ⟨S4x768, .f32⟩
  | 22 => ⟨S768x768, .f32⟩
  | 23 => ⟨S4x768, .f32⟩
  | 24 => ⟨S1x768, .f32⟩
  | 25 => ⟨S4x768, .f32⟩
  | 26 => ⟨S4x768, .f32⟩
  | 27 => ⟨S4x768, .f32⟩
  | 28 => ⟨S_, .f32⟩
  | 29 => ⟨S16384, .f32⟩
  | 30 => ⟨S16384, .f32⟩
  | 31 => ⟨S_, .f32⟩
  | 32 => ⟨S4x768, .f32⟩
  | 33 => ⟨S4x768, .f32⟩
  | _ => ⟨S4x2048x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x2048x768, .f32⟩

abbrev bufTy : (tb : Table) → Fin (tcTables nBuf tb) → BufTy
  | .hbm, ⟨i, _⟩ => hbmTy i
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_cst_4 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_v18 : Ref sig .tc := ⟨.hbm, 36, rfl⟩
abbrev main_cst_7 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_10 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_13 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_14 : Ref sig .tc := ⟨.hbm, 77, rfl⟩
abbrev main_v52 : Ref sig .tc := ⟨.hbm, 78, rfl⟩
abbrev main_v53 : Ref sig .tc := ⟨.hbm, 79, rfl⟩
abbrev main_cst_15 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_cst_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_19 : Ref sig .tc := ⟨.hbm, 106, rfl⟩
abbrev main_v76 : Ref sig .tc := ⟨.hbm, 107, rfl⟩
abbrev main_v77 : Ref sig .tc := ⟨.hbm, 108, rfl⟩
abbrev main_cst_20 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_22 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_24 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_v105 : Ref sig .tc := ⟨.hbm, 142, rfl⟩
abbrev main_v106 : Ref sig .tc := ⟨.hbm, 143, rfl⟩
abbrev main_cst_26 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_cst_27 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_28 : Ref sig .tc := ⟨.hbm, 162, rfl⟩
abbrev main_v123 : Ref sig .tc := ⟨.hbm, 163, rfl⟩
abbrev main_v124 : Ref sig .tc := ⟨.hbm, 164, rfl⟩
abbrev main_cst_29 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_30 : Ref sig .tc := ⟨.hbm, 170, rfl⟩
abbrev main_v129 : Ref sig .tc := ⟨.hbm, 171, rfl⟩
abbrev main_v130 : Ref sig .tc := ⟨.hbm, 172, rfl⟩
abbrev main_cst_31 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_32 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_cst_33 : Ref sig .tc := ⟨.hbm, 188, rfl⟩
abbrev main_v144 : Ref sig .tc := ⟨.hbm, 189, rfl⟩
abbrev main_cst_34 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_35 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_cst_36 : Ref sig .tc := ⟨.hbm, 205, rfl⟩
abbrev main_v158 : Ref sig .tc := ⟨.hbm, 206, rfl⟩
abbrev main_v159 : Ref sig .tc := ⟨.hbm, 207, rfl⟩
abbrev main_cst_37 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_cst_38 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_cst_39 : Ref sig .tc := ⟨.hbm, 226, rfl⟩
abbrev main_v176 : Ref sig .tc := ⟨.hbm, 227, rfl⟩
abbrev main_v177 : Ref sig .tc := ⟨.hbm, 228, rfl⟩
abbrev main_cst_40 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_41 : Ref sig .tc := ⟨.hbm, 234, rfl⟩
abbrev main_v182 : Ref sig .tc := ⟨.hbm, 235, rfl⟩
abbrev main_v183 : Ref sig .tc := ⟨.hbm, 236, rfl⟩
abbrev main_cst_42 : Ref sig .tc := ⟨.hbm, 237, rfl⟩
abbrev main_v184 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_43 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_cst_44 : Ref sig .tc := ⟨.hbm, 252, rfl⟩
abbrev main_v197 : Ref sig .tc := ⟨.hbm, 253, rfl⟩
abbrev main_cst_45 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_46 : Ref sig .tc := ⟨.hbm, 261, rfl⟩
abbrev main_v204 : Ref sig .tc := ⟨.hbm, 262, rfl⟩
abbrev main_v205 : Ref sig .tc := ⟨.hbm, 263, rfl⟩
abbrev main_v206 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_cst_47 : Ref sig .tc := ⟨.hbm, 269, rfl⟩
abbrev main_v211 : Ref sig .tc := ⟨.hbm, 270, rfl⟩
abbrev main_v212 : Ref sig .tc := ⟨.hbm, 271, rfl⟩
abbrev main_cst_48 : Ref sig .tc := ⟨.hbm, 272, rfl⟩
abbrev main_v213 : Ref sig .tc := ⟨.hbm, 273, rfl⟩
abbrev main_v214 : Ref sig .tc := ⟨.hbm, 274, rfl⟩
abbrev main_v215 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_cst_49 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_50 : Ref sig .tc := ⟨.hbm, 290, rfl⟩
abbrev main_v229 : Ref sig .tc := ⟨.hbm, 291, rfl⟩
abbrev main_v230 : Ref sig .tc := ⟨.hbm, 292, rfl⟩
abbrev main_cst_51 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_cst_52 : Ref sig .tc := ⟨.hbm, 298, rfl⟩
abbrev main_v235 : Ref sig .tc := ⟨.hbm, 299, rfl⟩
abbrev main_v236 : Ref sig .tc := ⟨.hbm, 300, rfl⟩
abbrev main_cst_53 : Ref sig .tc := ⟨.hbm, 301, rfl⟩
abbrev main_v237 : Ref sig .tc := ⟨.hbm, 302, rfl⟩
abbrev main_v238 : Ref sig .tc := ⟨.hbm, 303, rfl⟩
abbrev main_v239 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_cst_54 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_v247 : Ref sig .tc := ⟨.hbm, 313, rfl⟩
abbrev main_v248 : Ref sig .tc := ⟨.hbm, 314, rfl⟩
abbrev main_v249 : Ref sig .tc := ⟨.hbm, 315, rfl⟩
abbrev main_cst_55 : Ref sig .tc := ⟨.hbm, 316, rfl⟩
abbrev main_v250 : Ref sig .tc := ⟨.hbm, 317, rfl⟩
abbrev main_cst_56 : Ref sig .tc := ⟨.hbm, 318, rfl⟩
abbrev main_v251 : Ref sig .tc := ⟨.hbm, 319, rfl⟩
abbrev main_v252 : Ref sig .tc := ⟨.hbm, 320, rfl⟩
abbrev main_v253 : Ref sig .tc := ⟨.hbm, 321, rfl⟩
abbrev main_v254 : Ref sig .tc := ⟨.hbm, 322, rfl⟩
abbrev main_v255 : Ref sig .tc := ⟨.hbm, 323, rfl⟩
abbrev main_v256 : Ref sig .tc := ⟨.hbm, 324, rfl⟩
abbrev main_cst_57 : Ref sig .tc := ⟨.hbm, 325, rfl⟩
abbrev main_v257 : Ref sig .tc := ⟨.hbm, 326, rfl⟩
abbrev main_v258 : Ref sig .tc := ⟨.hbm, 327, rfl⟩
abbrev main_v259 : Ref sig .tc := ⟨.hbm, 328, rfl⟩
abbrev main_v260 : Ref sig .tc := ⟨.hbm, 329, rfl⟩
abbrev main_v261 : Ref sig .tc := ⟨.hbm, 330, rfl⟩
abbrev main_v262 : Ref sig .tc := ⟨.hbm, 331, rfl⟩
abbrev main_v263 : Ref sig .tc := ⟨.hbm, 332, rfl⟩
abbrev main_cst_58 : Ref sig .tc := ⟨.hbm, 333, rfl⟩
abbrev main_v264 : Ref sig .tc := ⟨.hbm, 334, rfl⟩
abbrev main_v265 : Ref sig .tc := ⟨.hbm, 335, rfl⟩
abbrev main_cst_59 : Ref sig .tc := ⟨.hbm, 336, rfl⟩
abbrev main_v266 : Ref sig .tc := ⟨.hbm, 337, rfl⟩
abbrev main_v267 : Ref sig .tc := ⟨.hbm, 338, rfl⟩
abbrev main_v268 : Ref sig .tc := ⟨.hbm, 339, rfl⟩
abbrev main_v269 : Ref sig .tc := ⟨.hbm, 340, rfl⟩
abbrev main_v270 : Ref sig .tc := ⟨.hbm, 341, rfl⟩
abbrev main_v271 : Ref sig .tc := ⟨.hbm, 342, rfl⟩
abbrev main_v272 : Ref sig .tc := ⟨.hbm, 343, rfl⟩
abbrev main_v273 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_cst_60 : Ref sig .tc := ⟨.hbm, 348, rfl⟩
abbrev main_v277 : Ref sig .tc := ⟨.hbm, 349, rfl⟩
abbrev main_v278 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_cst_61 : Ref sig .tc := ⟨.hbm, 354, rfl⟩
abbrev main_v282 : Ref sig .tc := ⟨.hbm, 355, rfl⟩
abbrev main_v283 : Ref sig .tc := ⟨.hbm, 356, rfl⟩
abbrev main_cst_62 : Ref sig .tc := ⟨.hbm, 357, rfl⟩
abbrev main_v284 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_cst_63 : Ref sig .tc := ⟨.hbm, 362, rfl⟩
abbrev main_v288 : Ref sig .tc := ⟨.hbm, 363, rfl⟩
abbrev main_v289 : Ref sig .tc := ⟨.hbm, 364, rfl⟩
abbrev main_cst_64 : Ref sig .tc := ⟨.hbm, 365, rfl⟩
abbrev main_v290 : Ref sig .tc := ⟨.hbm, 366, rfl⟩
abbrev main_v291 : Ref sig .tc := ⟨.hbm, 367, rfl⟩
abbrev main_v292 : Ref sig .tc := ⟨.hbm, 368, rfl⟩
abbrev main_v293 : Ref sig .tc := ⟨.hbm, 369, rfl⟩
abbrev main_v294 : Ref sig .tc := ⟨.hbm, 370, rfl⟩
abbrev main_v295 : Ref sig .tc := ⟨.hbm, 371, rfl⟩
abbrev main_v296 : Ref sig .tc := ⟨.hbm, 372, rfl⟩
abbrev main_cst_65 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_v300 : Ref sig .tc := ⟨.hbm, 377, rfl⟩
abbrev main_v301 : Ref sig .tc := ⟨.hbm, 378, rfl⟩
abbrev main_v302 : Ref sig .tc := ⟨.hbm, 379, rfl⟩
abbrev main_cst_66 : Ref sig .tc := ⟨.hbm, 380, rfl⟩
abbrev main_v303 : Ref sig .tc := ⟨.hbm, 381, rfl⟩
abbrev main_cst_67 : Ref sig .tc := ⟨.hbm, 382, rfl⟩
abbrev main_v304 : Ref sig .tc := ⟨.hbm, 383, rfl⟩
abbrev main_v305 : Ref sig .tc := ⟨.hbm, 384, rfl⟩
abbrev main_v306 : Ref sig .tc := ⟨.hbm, 385, rfl⟩
abbrev main_v307 : Ref sig .tc := ⟨.hbm, 386, rfl⟩
abbrev main_v308 : Ref sig .tc := ⟨.hbm, 387, rfl⟩
abbrev main_v309 : Ref sig .tc := ⟨.hbm, 388, rfl⟩
abbrev main_cst_68 : Ref sig .tc := ⟨.hbm, 389, rfl⟩
abbrev main_v310 : Ref sig .tc := ⟨.hbm, 390, rfl⟩
abbrev main_v311 : Ref sig .tc := ⟨.hbm, 391, rfl⟩
abbrev main_v312 : Ref sig .tc := ⟨.hbm, 392, rfl⟩
abbrev main_v313 : Ref sig .tc := ⟨.hbm, 393, rfl⟩
abbrev main_v314 : Ref sig .tc := ⟨.hbm, 394, rfl⟩
abbrev main_v315 : Ref sig .tc := ⟨.hbm, 395, rfl⟩
abbrev main_v316 : Ref sig .tc := ⟨.hbm, 396, rfl⟩
abbrev main_cst_69 : Ref sig .tc := ⟨.hbm, 397, rfl⟩
abbrev main_v317 : Ref sig .tc := ⟨.hbm, 398, rfl⟩
abbrev main_v318 : Ref sig .tc := ⟨.hbm, 399, rfl⟩
abbrev main_cst_70 : Ref sig .tc := ⟨.hbm, 400, rfl⟩
abbrev main_v319 : Ref sig .tc := ⟨.hbm, 401, rfl⟩
abbrev main_v320 : Ref sig .tc := ⟨.hbm, 402, rfl⟩
abbrev main_v321 : Ref sig .tc := ⟨.hbm, 403, rfl⟩
abbrev main_v322 : Ref sig .tc := ⟨.hbm, 404, rfl⟩
abbrev main_v323 : Ref sig .tc := ⟨.hbm, 405, rfl⟩
abbrev main_v324 : Ref sig .tc := ⟨.hbm, 406, rfl⟩
abbrev main_v325 : Ref sig .tc := ⟨.hbm, 407, rfl⟩
abbrev main_v326 : Ref sig .tc := ⟨.hbm, 408, rfl⟩
abbrev main_v327 : Ref sig .tc := ⟨.hbm, 409, rfl⟩
abbrev main_v328 : Ref sig .tc := ⟨.hbm, 410, rfl⟩
abbrev main_v329 : Ref sig .tc := ⟨.hbm, 411, rfl⟩
abbrev main_cst_71 : Ref sig .tc := ⟨.hbm, 412, rfl⟩
abbrev main_v330 : Ref sig .tc := ⟨.hbm, 413, rfl⟩
abbrev main_v331 : Ref sig .tc := ⟨.hbm, 414, rfl⟩
abbrev main_v332 : Ref sig .tc := ⟨.hbm, 415, rfl⟩
abbrev main_v333 : Ref sig .tc := ⟨.hbm, 416, rfl⟩
abbrev main_v334 : Ref sig .tc := ⟨.hbm, 417, rfl⟩
abbrev main_cst_72 : Ref sig .tc := ⟨.hbm, 418, rfl⟩
abbrev main_v335 : Ref sig .tc := ⟨.hbm, 419, rfl⟩
abbrev main_v336 : Ref sig .tc := ⟨.hbm, 420, rfl⟩
abbrev main_cst_73 : Ref sig .tc := ⟨.hbm, 421, rfl⟩
abbrev main_v337 : Ref sig .tc := ⟨.hbm, 422, rfl⟩
abbrev main_v338 : Ref sig .tc := ⟨.hbm, 423, rfl⟩
abbrev main_v339 : Ref sig .tc := ⟨.hbm, 424, rfl⟩
abbrev main_v340 : Ref sig .tc := ⟨.hbm, 425, rfl⟩
abbrev main_cst_74 : Ref sig .tc := ⟨.hbm, 426, rfl⟩
abbrev main_v341 : Ref sig .tc := ⟨.hbm, 427, rfl⟩
abbrev main_v342 : Ref sig .tc := ⟨.hbm, 428, rfl⟩
abbrev main_cst_75 : Ref sig .tc := ⟨.hbm, 429, rfl⟩
abbrev main_v343 : Ref sig .tc := ⟨.hbm, 430, rfl⟩
abbrev main_v344 : Ref sig .tc := ⟨.hbm, 431, rfl⟩
abbrev main_v345 : Ref sig .tc := ⟨.hbm, 432, rfl⟩
abbrev main_v346 : Ref sig .tc := ⟨.hbm, 433, rfl⟩
abbrev main_v347 : Ref sig .tc := ⟨.hbm, 434, rfl⟩
abbrev main_v348 : Ref sig .tc := ⟨.hbm, 435, rfl⟩
abbrev main_v349 : Ref sig .tc := ⟨.hbm, 436, rfl⟩
abbrev main_cst_76 : Ref sig .tc := ⟨.hbm, 437, rfl⟩
abbrev main_v350 : Ref sig .tc := ⟨.hbm, 438, rfl⟩
abbrev main_v351 : Ref sig .tc := ⟨.hbm, 439, rfl⟩
abbrev main_v352 : Ref sig .tc := ⟨.hbm, 440, rfl⟩
abbrev main_v353 : Ref sig .tc := ⟨.hbm, 441, rfl⟩
abbrev main_v354 : Ref sig .tc := ⟨.hbm, 442, rfl⟩
abbrev main_v355 : Ref sig .tc := ⟨.hbm, 443, rfl⟩
abbrev main_cst_77 : Ref sig .tc := ⟨.hbm, 444, rfl⟩
abbrev main_v356 : Ref sig .tc := ⟨.hbm, 445, rfl⟩
abbrev main_cst_78 : Ref sig .tc := ⟨.hbm, 446, rfl⟩
abbrev main_v357 : Ref sig .tc := ⟨.hbm, 447, rfl⟩
abbrev main_v358 : Ref sig .tc := ⟨.hbm, 448, rfl⟩
abbrev main_v359 : Ref sig .tc := ⟨.hbm, 449, rfl⟩
abbrev main_v360 : Ref sig .tc := ⟨.hbm, 450, rfl⟩
abbrev main_v361 : Ref sig .tc := ⟨.hbm, 451, rfl⟩
abbrev main_v362 : Ref sig .tc := ⟨.hbm, 452, rfl⟩
abbrev main_cst_79 : Ref sig .tc := ⟨.hbm, 453, rfl⟩
abbrev main_v363 : Ref sig .tc := ⟨.hbm, 454, rfl⟩
abbrev main_v364 : Ref sig .tc := ⟨.hbm, 455, rfl⟩
abbrev main_v365 : Ref sig .tc := ⟨.hbm, 456, rfl⟩
abbrev main_v366 : Ref sig .tc := ⟨.hbm, 457, rfl⟩
abbrev main_v367 : Ref sig .tc := ⟨.hbm, 458, rfl⟩
abbrev main_v368 : Ref sig .tc := ⟨.hbm, 459, rfl⟩
abbrev main_v369 : Ref sig .tc := ⟨.hbm, 460, rfl⟩
abbrev main_cst_80 : Ref sig .tc := ⟨.hbm, 461, rfl⟩
abbrev main_v370 : Ref sig .tc := ⟨.hbm, 462, rfl⟩
abbrev main_v371 : Ref sig .tc := ⟨.hbm, 463, rfl⟩
abbrev main_cst_81 : Ref sig .tc := ⟨.hbm, 464, rfl⟩
abbrev main_v372 : Ref sig .tc := ⟨.hbm, 465, rfl⟩
abbrev main_v373 : Ref sig .tc := ⟨.hbm, 466, rfl⟩
abbrev main_v374 : Ref sig .tc := ⟨.hbm, 467, rfl⟩
abbrev main_v375 : Ref sig .tc := ⟨.hbm, 468, rfl⟩
abbrev main_v376 : Ref sig .tc := ⟨.hbm, 469, rfl⟩
abbrev main_v377 : Ref sig .tc := ⟨.hbm, 470, rfl⟩
abbrev main_v378 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_cst_82 : Ref sig .tc := ⟨.hbm, 476, rfl⟩
abbrev main_v383 : Ref sig .tc := ⟨.hbm, 477, rfl⟩
abbrev main_v384 : Ref sig .tc := ⟨.hbm, 478, rfl⟩
abbrev main_v385 : Ref sig .tc := ⟨.hbm, 479, rfl⟩
abbrev main_v386 : Ref sig .tc := ⟨.hbm, 480, rfl⟩
abbrev main_v387 : Ref sig .tc := ⟨.hbm, 481, rfl⟩
abbrev main_cst_83 : Ref sig .tc := ⟨.hbm, 482, rfl⟩
abbrev main_v388 : Ref sig .tc := ⟨.hbm, 483, rfl⟩
abbrev main_v389 : Ref sig .tc := ⟨.hbm, 484, rfl⟩
abbrev main_cst_84 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_v393 : Ref sig .tc := ⟨.hbm, 489, rfl⟩
abbrev main_cst_85 : Ref sig .tc := ⟨.hbm, 490, rfl⟩
abbrev main_v394 : Ref sig .tc := ⟨.hbm, 491, rfl⟩
abbrev main_v395 : Ref sig .tc := ⟨.hbm, 492, rfl⟩
abbrev main_cst_86 : Ref sig .tc := ⟨.hbm, 493, rfl⟩
abbrev main_v396 : Ref sig .tc := ⟨.hbm, 494, rfl⟩
abbrev main_v397 : Ref sig .tc := ⟨.hbm, 495, rfl⟩
abbrev main_v398 : Ref sig .tc := ⟨.hbm, 496, rfl⟩
abbrev main_v399 : Ref sig .tc := ⟨.hbm, 497, rfl⟩
abbrev main_v400 : Ref sig .tc := ⟨.hbm, 498, rfl⟩
abbrev main_v401 : Ref sig .tc := ⟨.hbm, 499, rfl⟩
abbrev main_v402 : Ref sig .tc := ⟨.hbm, 500, rfl⟩
abbrev main_cst_87 : Ref sig .tc := ⟨.hbm, 501, rfl⟩
abbrev main_v403 : Ref sig .tc := ⟨.hbm, 502, rfl⟩
abbrev main_v404 : Ref sig .tc := ⟨.hbm, 503, rfl⟩
abbrev main_v405 : Ref sig .tc := ⟨.hbm, 504, rfl⟩
abbrev main_v406 : Ref sig .tc := ⟨.hbm, 505, rfl⟩
abbrev main_v407 : Ref sig .tc := ⟨.hbm, 506, rfl⟩
abbrev main_v408 : Ref sig .tc := ⟨.hbm, 507, rfl⟩
abbrev main_cst_88 : Ref sig .tc := ⟨.hbm, 508, rfl⟩
abbrev main_v409 : Ref sig .tc := ⟨.hbm, 509, rfl⟩
abbrev main_cst_89 : Ref sig .tc := ⟨.hbm, 510, rfl⟩
abbrev main_v410 : Ref sig .tc := ⟨.hbm, 511, rfl⟩
abbrev main_v411 : Ref sig .tc := ⟨.hbm, 512, rfl⟩
abbrev main_v412 : Ref sig .tc := ⟨.hbm, 513, rfl⟩
abbrev main_v413 : Ref sig .tc := ⟨.hbm, 514, rfl⟩
abbrev main_v414 : Ref sig .tc := ⟨.hbm, 515, rfl⟩
abbrev main_v415 : Ref sig .tc := ⟨.hbm, 516, rfl⟩
abbrev main_cst_90 : Ref sig .tc := ⟨.hbm, 517, rfl⟩
abbrev main_v416 : Ref sig .tc := ⟨.hbm, 518, rfl⟩
abbrev main_v417 : Ref sig .tc := ⟨.hbm, 519, rfl⟩
abbrev main_v418 : Ref sig .tc := ⟨.hbm, 520, rfl⟩
abbrev main_v419 : Ref sig .tc := ⟨.hbm, 521, rfl⟩
abbrev main_v420 : Ref sig .tc := ⟨.hbm, 522, rfl⟩
abbrev main_v421 : Ref sig .tc := ⟨.hbm, 523, rfl⟩
abbrev main_v422 : Ref sig .tc := ⟨.hbm, 524, rfl⟩
abbrev main_cst_91 : Ref sig .tc := ⟨.hbm, 525, rfl⟩
abbrev main_v423 : Ref sig .tc := ⟨.hbm, 526, rfl⟩
abbrev main_v424 : Ref sig .tc := ⟨.hbm, 527, rfl⟩
abbrev main_cst_92 : Ref sig .tc := ⟨.hbm, 528, rfl⟩
abbrev main_v425 : Ref sig .tc := ⟨.hbm, 529, rfl⟩
abbrev main_v426 : Ref sig .tc := ⟨.hbm, 530, rfl⟩
abbrev main_v427 : Ref sig .tc := ⟨.hbm, 531, rfl⟩
abbrev main_v428 : Ref sig .tc := ⟨.hbm, 532, rfl⟩
abbrev main_v429 : Ref sig .tc := ⟨.hbm, 533, rfl⟩
abbrev main_v430 : Ref sig .tc := ⟨.hbm, 534, rfl⟩
abbrev main_v431 : Ref sig .tc := ⟨.hbm, 535, rfl⟩
abbrev main_v432 : Ref sig .tc := ⟨.hbm, 536, rfl⟩
abbrev main_v433 : Ref sig .tc := ⟨.hbm, 537, rfl⟩
abbrev main_v434 : Ref sig .tc := ⟨.hbm, 538, rfl⟩
abbrev main_v435 : Ref sig .tc := ⟨.hbm, 539, rfl⟩
abbrev main_cst_93 : Ref sig .tc := ⟨.hbm, 540, rfl⟩
abbrev main_v436 : Ref sig .tc := ⟨.hbm, 541, rfl⟩
abbrev main_v437 : Ref sig .tc := ⟨.hbm, 542, rfl⟩
abbrev main_v438 : Ref sig .tc := ⟨.hbm, 543, rfl⟩
abbrev main_v439 : Ref sig .tc := ⟨.hbm, 544, rfl⟩
abbrev main_v440 : Ref sig .tc := ⟨.hbm, 545, rfl⟩
abbrev main_cst_94 : Ref sig .tc := ⟨.hbm, 546, rfl⟩
abbrev main_v441 : Ref sig .tc := ⟨.hbm, 547, rfl⟩
abbrev main_v442 : Ref sig .tc := ⟨.hbm, 548, rfl⟩
abbrev main_cst_95 : Ref sig .tc := ⟨.hbm, 549, rfl⟩
abbrev main_v443 : Ref sig .tc := ⟨.hbm, 550, rfl⟩
abbrev main_v444 : Ref sig .tc := ⟨.hbm, 551, rfl⟩
abbrev main_v445 : Ref sig .tc := ⟨.hbm, 552, rfl⟩
abbrev main_v446 : Ref sig .tc := ⟨.hbm, 553, rfl⟩
abbrev main_cst_96 : Ref sig .tc := ⟨.hbm, 554, rfl⟩
abbrev main_v447 : Ref sig .tc := ⟨.hbm, 555, rfl⟩
abbrev main_v448 : Ref sig .tc := ⟨.hbm, 556, rfl⟩
abbrev main_cst_97 : Ref sig .tc := ⟨.hbm, 557, rfl⟩
abbrev main_v449 : Ref sig .tc := ⟨.hbm, 558, rfl⟩
abbrev main_v450 : Ref sig .tc := ⟨.hbm, 559, rfl⟩
abbrev main_v451 : Ref sig .tc := ⟨.hbm, 560, rfl⟩
abbrev main_v452 : Ref sig .tc := ⟨.hbm, 561, rfl⟩
abbrev main_v453 : Ref sig .tc := ⟨.hbm, 562, rfl⟩
abbrev main_v454 : Ref sig .tc := ⟨.hbm, 563, rfl⟩
abbrev main_v455 : Ref sig .tc := ⟨.hbm, 564, rfl⟩
abbrev main_cst_98 : Ref sig .tc := ⟨.hbm, 565, rfl⟩
abbrev main_v456 : Ref sig .tc := ⟨.hbm, 566, rfl⟩
abbrev main_v457 : Ref sig .tc := ⟨.hbm, 567, rfl⟩
abbrev main_v458 : Ref sig .tc := ⟨.hbm, 568, rfl⟩
abbrev main_v459 : Ref sig .tc := ⟨.hbm, 569, rfl⟩
abbrev main_v460 : Ref sig .tc := ⟨.hbm, 570, rfl⟩
abbrev main_v461 : Ref sig .tc := ⟨.hbm, 571, rfl⟩
abbrev main_cst_99 : Ref sig .tc := ⟨.hbm, 572, rfl⟩
abbrev main_v462 : Ref sig .tc := ⟨.hbm, 573, rfl⟩
abbrev main_cst_100 : Ref sig .tc := ⟨.hbm, 574, rfl⟩
abbrev main_v463 : Ref sig .tc := ⟨.hbm, 575, rfl⟩
abbrev main_v464 : Ref sig .tc := ⟨.hbm, 576, rfl⟩
abbrev main_v465 : Ref sig .tc := ⟨.hbm, 577, rfl⟩
abbrev main_v466 : Ref sig .tc := ⟨.hbm, 578, rfl⟩
abbrev main_v467 : Ref sig .tc := ⟨.hbm, 579, rfl⟩
abbrev main_v468 : Ref sig .tc := ⟨.hbm, 580, rfl⟩
abbrev main_cst_101 : Ref sig .tc := ⟨.hbm, 581, rfl⟩
abbrev main_v469 : Ref sig .tc := ⟨.hbm, 582, rfl⟩
abbrev main_v470 : Ref sig .tc := ⟨.hbm, 583, rfl⟩
abbrev main_v471 : Ref sig .tc := ⟨.hbm, 584, rfl⟩
abbrev main_v472 : Ref sig .tc := ⟨.hbm, 585, rfl⟩
abbrev main_v473 : Ref sig .tc := ⟨.hbm, 586, rfl⟩
abbrev main_v474 : Ref sig .tc := ⟨.hbm, 587, rfl⟩
abbrev main_v475 : Ref sig .tc := ⟨.hbm, 588, rfl⟩
abbrev main_cst_102 : Ref sig .tc := ⟨.hbm, 589, rfl⟩
abbrev main_v476 : Ref sig .tc := ⟨.hbm, 590, rfl⟩
abbrev main_v477 : Ref sig .tc := ⟨.hbm, 591, rfl⟩
abbrev main_cst_103 : Ref sig .tc := ⟨.hbm, 592, rfl⟩
abbrev main_v478 : Ref sig .tc := ⟨.hbm, 593, rfl⟩
abbrev main_v479 : Ref sig .tc := ⟨.hbm, 594, rfl⟩
abbrev main_v480 : Ref sig .tc := ⟨.hbm, 595, rfl⟩
abbrev main_v481 : Ref sig .tc := ⟨.hbm, 596, rfl⟩
abbrev main_v482 : Ref sig .tc := ⟨.hbm, 597, rfl⟩
abbrev main_v483 : Ref sig .tc := ⟨.hbm, 598, rfl⟩
abbrev main_v484 : Ref sig .tc := ⟨.hbm, 599, rfl⟩
abbrev main_v485 : Ref sig .tc := ⟨.hbm, 600, rfl⟩
abbrev main_v486 : Ref sig .tc := ⟨.hbm, 601, rfl⟩
abbrev main_v487 : Ref sig .tc := ⟨.hbm, 602, rfl⟩
abbrev main_v488 : Ref sig .tc := ⟨.hbm, 603, rfl⟩
abbrev main_cst_104 : Ref sig .tc := ⟨.hbm, 604, rfl⟩
abbrev main_v489 : Ref sig .tc := ⟨.hbm, 605, rfl⟩
abbrev main_v490 : Ref sig .tc := ⟨.hbm, 606, rfl⟩
abbrev main_v491 : Ref sig .tc := ⟨.hbm, 607, rfl⟩
abbrev main_v492 : Ref sig .tc := ⟨.hbm, 608, rfl⟩
abbrev main_v493 : Ref sig .tc := ⟨.hbm, 609, rfl⟩
abbrev main_cst_105 : Ref sig .tc := ⟨.hbm, 610, rfl⟩
abbrev main_v494 : Ref sig .tc := ⟨.hbm, 611, rfl⟩
abbrev main_v495 : Ref sig .tc := ⟨.hbm, 612, rfl⟩
abbrev main_cst_106 : Ref sig .tc := ⟨.hbm, 613, rfl⟩
abbrev main_v496 : Ref sig .tc := ⟨.hbm, 614, rfl⟩
abbrev main_v497 : Ref sig .tc := ⟨.hbm, 615, rfl⟩
abbrev main_v498 : Ref sig .tc := ⟨.hbm, 616, rfl⟩
abbrev main_v499 : Ref sig .tc := ⟨.hbm, 617, rfl⟩
abbrev main_cst_107 : Ref sig .tc := ⟨.hbm, 618, rfl⟩
abbrev main_v500 : Ref sig .tc := ⟨.hbm, 619, rfl⟩
abbrev main_v501 : Ref sig .tc := ⟨.hbm, 620, rfl⟩
abbrev main_cst_108 : Ref sig .tc := ⟨.hbm, 621, rfl⟩
abbrev main_v502 : Ref sig .tc := ⟨.hbm, 622, rfl⟩
abbrev main_v503 : Ref sig .tc := ⟨.hbm, 623, rfl⟩
abbrev main_v504 : Ref sig .tc := ⟨.hbm, 624, rfl⟩
abbrev main_v505 : Ref sig .tc := ⟨.hbm, 625, rfl⟩
abbrev main_v506 : Ref sig .tc := ⟨.hbm, 626, rfl⟩
abbrev main_v507 : Ref sig .tc := ⟨.hbm, 627, rfl⟩
abbrev main_v508 : Ref sig .tc := ⟨.hbm, 628, rfl⟩
abbrev main_cst_109 : Ref sig .tc := ⟨.hbm, 629, rfl⟩
abbrev main_v509 : Ref sig .tc := ⟨.hbm, 630, rfl⟩
abbrev main_v510 : Ref sig .tc := ⟨.hbm, 631, rfl⟩
abbrev main_v511 : Ref sig .tc := ⟨.hbm, 632, rfl⟩
abbrev main_v512 : Ref sig .tc := ⟨.hbm, 633, rfl⟩
abbrev main_v513 : Ref sig .tc := ⟨.hbm, 634, rfl⟩
abbrev main_v514 : Ref sig .tc := ⟨.hbm, 635, rfl⟩
abbrev main_cst_110 : Ref sig .tc := ⟨.hbm, 636, rfl⟩
abbrev main_v515 : Ref sig .tc := ⟨.hbm, 637, rfl⟩
abbrev main_cst_111 : Ref sig .tc := ⟨.hbm, 638, rfl⟩
abbrev main_v516 : Ref sig .tc := ⟨.hbm, 639, rfl⟩
abbrev main_v517 : Ref sig .tc := ⟨.hbm, 640, rfl⟩
abbrev main_v518 : Ref sig .tc := ⟨.hbm, 641, rfl⟩
abbrev main_v519 : Ref sig .tc := ⟨.hbm, 642, rfl⟩
abbrev main_v520 : Ref sig .tc := ⟨.hbm, 643, rfl⟩
abbrev main_v521 : Ref sig .tc := ⟨.hbm, 644, rfl⟩
abbrev main_cst_112 : Ref sig .tc := ⟨.hbm, 645, rfl⟩
abbrev main_v522 : Ref sig .tc := ⟨.hbm, 646, rfl⟩
abbrev main_v523 : Ref sig .tc := ⟨.hbm, 647, rfl⟩
abbrev main_v524 : Ref sig .tc := ⟨.hbm, 648, rfl⟩
abbrev main_v525 : Ref sig .tc := ⟨.hbm, 649, rfl⟩
abbrev main_v526 : Ref sig .tc := ⟨.hbm, 650, rfl⟩
abbrev main_v527 : Ref sig .tc := ⟨.hbm, 651, rfl⟩
abbrev main_v528 : Ref sig .tc := ⟨.hbm, 652, rfl⟩
abbrev main_cst_113 : Ref sig .tc := ⟨.hbm, 653, rfl⟩
abbrev main_v529 : Ref sig .tc := ⟨.hbm, 654, rfl⟩
abbrev main_v530 : Ref sig .tc := ⟨.hbm, 655, rfl⟩
abbrev main_cst_114 : Ref sig .tc := ⟨.hbm, 656, rfl⟩
abbrev main_v531 : Ref sig .tc := ⟨.hbm, 657, rfl⟩
abbrev main_v532 : Ref sig .tc := ⟨.hbm, 658, rfl⟩
abbrev main_v533 : Ref sig .tc := ⟨.hbm, 659, rfl⟩
abbrev main_v534 : Ref sig .tc := ⟨.hbm, 660, rfl⟩
abbrev main_v535 : Ref sig .tc := ⟨.hbm, 661, rfl⟩
abbrev main_v536 : Ref sig .tc := ⟨.hbm, 662, rfl⟩
abbrev main_v537 : Ref sig .tc := ⟨.hbm, 663, rfl⟩
abbrev main_v538 : Ref sig .tc := ⟨.hbm, 664, rfl⟩
abbrev main_v539 : Ref sig .tc := ⟨.hbm, 665, rfl⟩
abbrev main_v540 : Ref sig .tc := ⟨.hbm, 666, rfl⟩
abbrev main_v541 : Ref sig .tc := ⟨.hbm, 667, rfl⟩
abbrev main_cst_115 : Ref sig .tc := ⟨.hbm, 668, rfl⟩
abbrev main_v542 : Ref sig .tc := ⟨.hbm, 669, rfl⟩
abbrev main_v543 : Ref sig .tc := ⟨.hbm, 670, rfl⟩
abbrev main_cst_116 : Ref sig .tc := ⟨.hbm, 671, rfl⟩
abbrev main_v544 : Ref sig .tc := ⟨.hbm, 672, rfl⟩
abbrev main_v545 : Ref sig .tc := ⟨.hbm, 673, rfl⟩

abbrev nD : Nat := 1
abbrev τ : Topo := Topo.v7x

variable {F : FTy → Type} [FloatOps F]
-- ==== Proof.KernelIdeal.Base.lean ====
module

public import proofs.«01_k».proof.Proof.Gen.KernelIdeal.Frame
public import proofs.«01_k».proof.Proof.Gen.KernelIdeal.Skeleton
public import Idealize.ShloMosaic.Lib.VecWindow

/-! What one call of the kernel body does to the buffers it touches, branch pattern by branch pattern: the first point, a
    later point of the pooling phase, the first and a later point of the scoring phase, and the first, a middle and the last
    point of the retrieval phase. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
/-! ## Which of the seven branches a point takes -/

/-- The test the body makes for a branch taken at one phase and one block only. -/
abbrev atPoint (i : grid0.Coords) (p j : BitVec 32) : Prop :=
  Scalar.cmpi .ne (Scalar.extui (Scalar.andi (Scalar.cmpi .eq (BitVec.ofNat 32 (i 0).val) p) (Scalar.cmpi .eq (BitVec.ofNat 32 (i 1).val) j)) : BitVec 32) 0#32 = 1#1
/-- The test the body makes for a branch taken at every block of the first phase. -/
abbrev atPool (i : grid0.Coords) : Prop :=
  Scalar.cmpi .ne (Scalar.extui (Scalar.cmpi .eq (BitVec.ofNat 32 (i 0).val) 0#32) : BitVec 32) 0#32 = 1#1

theorem atInit_iff : ∀ i : grid0.Coords, atPoint i 0#32 0#32 ↔ (i 0).val = 0 ∧ (i 1).val = 0 := by decide +kernel
theorem atPool_iff : ∀ i : grid0.Coords, atPool i ↔ (i 0).val = 0 := by decide +kernel
theorem atProject_iff : ∀ i : grid0.Coords, atPoint i 1#32 0#32 ↔ (i 0).val = 1 ∧ (i 1).val = 0 := by decide +kernel
theorem atScore_iff : ∀ i : grid0.Coords, k0_cond4 i = 1#1 ↔ (i 0).val = 1 := by decide +kernel
theorem atRounds_iff : ∀ i : grid0.Coords, atPoint i 2#32 0#32 ↔ (i 0).val = 2 ∧ (i 1).val = 0 := by decide +kernel
theorem atRetrieve_iff : ∀ i : grid0.Coords, k0_cond6 i = 1#1 ↔ (i 0).val = 2 := by decide +kernel
theorem atOut_iff : ∀ i : grid0.Coords, k0_cond7 i = 1#1 ↔ (i 0).val = 2 ∧ (i 1).val = 7 := by decide +kernel

/-! ## The memory the body is handed -/

/-- The memory references of one call of the body, each a whole buffer: ten inputs (`m2` to `m11`), the output (`m12`),
    and the four scratch buffers: the pooled then projected query (`m13`), the scores (`m14`), the round weights (`m15`)
    and the accumulated retrieval (`m16`). -/
structure Mems where
  m2 : Memref sig .tc .vmem S4x256x768 .f32
  m3 : Memref sig .tc .vmem S2048x768 .f32
  m4 : Memref sig .tc .vmem S2048x768 .f32
  m5 : Memref sig .tc .vmem S8x1x2048 .f32
  m6 : Memref sig .tc .vmem S8x1x2048 .f32
  m7 : Memref sig .tc .vmem S8x1x2048 .f32
  m8 : Memref sig .tc .vmem S768x768 .f32
  m9 : Memref sig .tc .vmem S1x768 .f32
  m10 : Memref sig .tc .vmem S768x768 .f32
  m11 : Memref sig .tc .vmem S1x768 .f32
  m12 : Memref sig .tc .vmem S4x768 .f32
  m13 : Memref sig .tc .vmem S4x768 .f32
  m14 : Memref sig .tc .vmem S8x4x2048 .f32
  m15 : Memref sig .tc .vmem S8x4x2048 .f32
  m16 : Memref sig .tc .vmem S4x768 .f32
  h2 : m2.IsWhole
  h3 : m3.IsWhole
  h4 : m4.IsWhole
  h5 : m5.IsWhole
  h6 : m6.IsWhole
  h7 : m7.IsWhole
  h8 : m8.IsWhole
  h9 : m9.IsWhole
  h10 : m10.IsWhole
  h11 : m11.IsWhole
  h12 : m12.IsWhole
  h13 : m13.IsWhole
  h14 : m14.IsWhole
  h15 : m15.IsWhole
  h16 : m16.IsWhole

/-- The body called on them. -/
abbrev Mems.body (M : Mems) (i : grid0.Coords) : Prog (TpuEff nD τ sig (Elt F) Λ₀ .tc) PUnit :=
  cc0__body i M.m2 M.h2 M.m3 M.h3 M.m4 M.h4 M.m5 M.h5 M.m6 M.h6 M.m7 M.h7 M.m8 M.h8 M.m9 M.h9 M.m10 M.h10 M.m11 M.h11
    M.m12 M.h12 M.m13 M.h13 M.m14 M.h14 M.m15 M.h15 M.m16 M.h16

variable (c : Dev nD) (M : Mems) (i : grid0.Coords)

/-- A buffer whose contents read `x` is owned at `x`. -/
theorem owns_of_read {sp : Space} {s : Shape} {e : EltTy} (a : Memref sig .tc sp s e) (f : Buf (Elt F) (a.view.loc (c : Thread nD τ)))
    (x : s.Idx → Elt F e) (h : a.view.read (Elt F) f = x) :
    (a.view.loc (c : Thread nD τ) ↦[a.view.set]{fullShare} f : sProp 𝕄) ⊢ owns (c : Thread nD τ) a fullShare x := by
  unfold owns
  iintro H
  iexists _; isplitr
  · ipureintro; exact h
  iexact H

/-! ## The values the body computes, as functions of what it reads -/

/-- The scores with block `i 1` replaced by the scores of the projected query `q` against the key block `x`. -/
abbrev scoreAt (s : Vec F S8x4x2048 .f32) (q : Vec F S4x768 .f32) (x : Vec F S2048x768 .f32) : Vec F S8x4x2048 .f32 :=
  VecWindow.put s ![(i 1).val, 0, 0] S1x4x2048.size (k0_pay5 q x)

/-- The weights of all ten rounds added up, from the scores, the priorities, the ages and the validity mask. -/
def weights (s : Vec F S8x4x2048 .f32) (p g v : Vec F S8x1x2048 .f32) : Vec F S8x4x2048 .f32 :=
  let a := k0_pay9 p g
  let b := k0_pay10 v
  let w2 := k0_pay14 s a b (k0_pay11 (F := F)) (k0_pay12 s p g v) (k0_pay13 s p g v) (Scalar.ofBits .f32 0x322BCC77#32)
  let w3 := k0_pay17 b w2 (k0_pay15 a) (k0_pay16 s a)
  let w5 := k0_pay20 s a b w3 (k0_pay18 s a b) (k0_pay19 s a b)
  let w7 := k0_pay24 s a b w5 (k0_pay21 a) (k0_pay22 s a) (k0_pay23 s a)
  let w8 := k0_pay25 s a b w7 (Named.named κ "decay7" 0x3EF4E355#32)
  k0_pay6 (k0_pay29 s a b w8 (k0_pay26 a) (k0_pay27 s a) (k0_pay28 (F := F)))

theorem slab_inb : ∀ i : grid0.Coords, ∀ a, (![(i 1).val, 0, 0] : Fin 3 → ℕ) a + S1x4x2048.size a ≤ S8x4x2048.size a := by decide +kernel

/-- The accumulator with block `i 1` of the weights `w` against the value block `x` added. -/
abbrev retrieveAt (a : Vec F S4x768 .f32) (w : Vec F S8x4x2048 .f32) (x : Vec F S2048x768 .f32) : Vec F S4x768 .f32 :=
  k0_pay7 a (VecWindow.window w ![(i 1).val, 0, 0] S1x4x2048.size (slab_inb i)) x

/-! ## The seven runs -/

end Cert.KernelIdeal.Hand

end
-- ==== Proof.KernelIdeal.RunPool.lean ====
module

public import proofs.«01_k».proof.Proof.KernelIdeal.Base

/-! The two runs of the pooling phase. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (M : Mems) (i : grid0.Coords)

set_option maxHeartbeats 1000000 in
/-- The first point clears the running sum and the accumulator, and adds its block to the running sum. -/
theorem run_first (h0 : (i 0).val = 0) (h1 : (i 1).val = 0) (x : Vec F S4x256x768 .f32) (q : Vec F S4x768 .f32) (a : Vec F S4x768 .f32)
    (E : Set ℕ) (K : PUnit → sProp 𝕄) :
    iprop(owns (c : Thread nD τ) M.m2 fullShare x ∗ owns (c : Thread nD τ) M.m13 fullShare q ∗ owns (c : Thread nD τ) M.m16 fullShare a
        ∗ (iprop(owns (c : Thread nD τ) M.m2 fullShare x ∗ owns (c : Thread nD τ) M.m13 fullShare (k0_pay3 (k0_pay1 (F := F)) x) ∗ owns (c : Thread nD τ) M.m16 fullShare (k0_pay2 (F := F))) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : atPoint i 0#32 0#32 := by rw [atInit_iff]; omega
  have e2 : atPool i := by rw [atPool_iff]; omega
  have e3 : ¬ atPoint i 1#32 0#32 := by rw [atProject_iff]; omega
  have e4 : ¬ k0_cond4 i = 1#1 := by rw [atScore_iff]; omega
  have e5 : ¬ atPoint i 2#32 0#32 := by rw [atRounds_iff]; omega
  have e6 : ¬ k0_cond6 i = 1#1 := by rw [atRetrieve_iff]; omega
  have e7 : ¬ k0_cond7 i = 1#1 := by rw [atOut_iff]; omega
  simp only [Mems.body, cc0__body_eq_skeleton]; unfold cc0__body_skel
  unfold owns
  iintro ⟨⟨%f2, %hf2, H2⟩, ⟨%f13, %hf13, H13⟩, ⟨%f16, %hf16, H16⟩, Hk⟩
  sl_exec (disch := first | sl_exact e1 | sl_exact e2 | sl_exact e3 | sl_exact e4 | sl_exact e5 | sl_exact e6 | sl_exact e7)
  sl_step
  iapply Hk
  isplitl [H2]
  · iexists _; isplitr
    · ipureintro; exact hf2
    iexact H2
  isplitl [H13]
  · iexists _; isplitr
    swap
    · iexact H13
    · ipureintro
      refine (View.read_writes_full _ _ _ _ _).trans ?_; rw [View.readAt_full m2.view f2, hf2]; exact congrArg (fun z => k0_pay3 z x) (View.readCov_full _ _ _ _ [])
  iexists _; isplitr
  swap
  · iexact H16
  · ipureintro
    exact View.read_writes_full _ _ _ _ _

set_option maxHeartbeats 1000000 in
/-- A later point of the first phase adds its block to the running sum. -/
theorem run_pool (h0 : (i 0).val = 0) (h1 : (i 1).val ≠ 0) (x : Vec F S4x256x768 .f32) (q : Vec F S4x768 .f32)
    (E : Set ℕ) (K : PUnit → sProp 𝕄) :
    iprop(owns (c : Thread nD τ) M.m2 fullShare x ∗ owns (c : Thread nD τ) M.m13 fullShare q
        ∗ (iprop(owns (c : Thread nD τ) M.m2 fullShare x ∗ owns (c : Thread nD τ) M.m13 fullShare (k0_pay3 q x)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : atPool i := by rw [atPool_iff]; omega
  have e3 : ¬ atPoint i 1#32 0#32 := by rw [atProject_iff]; omega
  have e4 : ¬ k0_cond4 i = 1#1 := by rw [atScore_iff]; omega
  have e5 : ¬ atPoint i 2#32 0#32 := by rw [atRounds_iff]; omega
  have e6 : ¬ k0_cond6 i = 1#1 := by rw [atRetrieve_iff]; omega
  have e7 : ¬ k0_cond7 i = 1#1 := by rw [atOut_iff]; omega
  simp only [Mems.body, cc0__body_eq_skeleton]; unfold cc0__body_skel
  unfold owns
  iintro ⟨⟨%f2, %hf2, H2⟩, ⟨%f13, %hf13, H13⟩, Hk⟩
  sl_exec (disch := first | sl_exact e1 | sl_exact e2 | sl_exact e3 | sl_exact e4 | sl_exact e5 | sl_exact e6 | sl_exact e7)
  sl_step
  iapply Hk
  isplitl [H2]
  · iexists _; isplitr
    · ipureintro; exact hf2
    iexact H2
  iexists _; isplitr
  swap
  · iexact H13
  · ipureintro
    refine (View.read_writes_full _ _ _ _ _).trans ?_; rw [View.readAt_full, View.readAt_full, hf13, hf2]

end Cert.KernelIdeal.Hand

end
-- ==== Proof.KernelIdeal.RunScore.lean ====
module

public import proofs.«01_k».proof.Proof.KernelIdeal.Base

/-! The two runs of the scoring phase. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (M : Mems) (i : grid0.Coords)

set_option maxHeartbeats 1000000 in
/-- The first point of the second phase projects the pooled query and scores its key block. -/
theorem run_project (h0 : (i 0).val = 1) (h1 : (i 1).val = 0) (k : Vec F S2048x768 .f32) (wq : Vec F S768x768 .f32) (bq : Vec F S1x768 .f32) (q : Vec F S4x768 .f32) (s : Vec F S8x4x2048 .f32)
    (E : Set ℕ) (K : PUnit → sProp 𝕄) :
    iprop(owns (c : Thread nD τ) M.m3 fullShare k ∗ owns (c : Thread nD τ) M.m8 fullShare wq ∗ owns (c : Thread nD τ) M.m9 fullShare bq ∗ owns (c : Thread nD τ) M.m13 fullShare q ∗ owns (c : Thread nD τ) M.m14 fullShare s
        ∗ (iprop(owns (c : Thread nD τ) M.m3 fullShare k ∗ owns (c : Thread nD τ) M.m8 fullShare wq ∗ owns (c : Thread nD τ) M.m9 fullShare bq ∗ owns (c : Thread nD τ) M.m13 fullShare (k0_pay4 q wq bq) ∗ owns (c : Thread nD τ) M.m14 fullShare (scoreAt i s (k0_pay4 q wq bq) k)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : ¬ atPool i := by rw [atPool_iff]; omega
  have e3 : atPoint i 1#32 0#32 := by rw [atProject_iff]; omega
  have e4 : k0_cond4 i = 1#1 := by rw [atScore_iff]; omega
  have e5 : ¬ atPoint i 2#32 0#32 := by rw [atRounds_iff]; omega
  have e6 : ¬ k0_cond6 i = 1#1 := by rw [atRetrieve_iff]; omega
  have e7 : ¬ k0_cond7 i = 1#1 := by rw [atOut_iff]; omega
  simp only [Mems.body, cc0__body_eq_skeleton]; unfold cc0__body_skel
  unfold owns
  iintro ⟨⟨%f3, %hf3, H3⟩, ⟨%f8, %hf8, H8⟩, ⟨%f9, %hf9, H9⟩, ⟨%f13, %hf13, H13⟩, ⟨%f14, %hf14, H14⟩, Hk⟩
  sl_exec (disch := first | sl_exact e1 | sl_exact e2 | sl_exact e3 | sl_exact e4 | sl_exact e5 | sl_exact e6 | sl_exact e7)
  sl_step
  iapply Hk
  isplitl [H3]
  · iexists _; isplitr
    · ipureintro; exact hf3
    iexact H3
  isplitl [H8]
  · iexists _; isplitr
    · ipureintro; exact hf8
    iexact H8
  isplitl [H9]
  · iexists _; isplitr
    · ipureintro; exact hf9
    iexact H9
  isplitl [H13]
  · iexists _; isplitr
    swap
    · iexact H13
    · ipureintro
      refine (View.read_writes_full _ _ _ _ _).trans ?_; rw [View.readAt_full m13.view f13, View.readAt_full m8.view f8, View.readAt_full m9.view f9, hf13, hf8, hf9]
  iexists _; isplitr
  swap
  · iexact H14
  · ipureintro
    refine (View.read_writes_cons_put _ _ _ _ [] (k0_off1_eq i)).trans ?_
    have hq : run_project.sl.v29 c m8 m9 m13 f8 f9 f13 = k0_pay4 q wq bq := (View.readCov_full _ _ _ _ []).trans (by
      rw [View.readAt_full m13.view f13, View.readAt_full m8.view f8, View.readAt_full m9.view f9, hf13, hf8, hf9])
    rw [View.writes_nil, View.readAt_full, hf14, hf3, hq]

set_option maxHeartbeats 1000000 in
/-- A later point of the second phase scores its key block. -/
theorem run_score (h0 : (i 0).val = 1) (h1 : (i 1).val ≠ 0) (k : Vec F S2048x768 .f32) (q : Vec F S4x768 .f32) (s : Vec F S8x4x2048 .f32)
    (E : Set ℕ) (K : PUnit → sProp 𝕄) :
    iprop(owns (c : Thread nD τ) M.m3 fullShare k ∗ owns (c : Thread nD τ) M.m13 fullShare q ∗ owns (c : Thread nD τ) M.m14 fullShare s
        ∗ (iprop(owns (c : Thread nD τ) M.m3 fullShare k ∗ owns (c : Thread nD τ) M.m13 fullShare q ∗ owns (c : Thread nD τ) M.m14 fullShare (scoreAt i s q k)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : ¬ atPool i := by rw [atPool_iff]; omega
  have e3 : ¬ atPoint i 1#32 0#32 := by rw [atProject_iff]; omega
  have e4 : k0_cond4 i = 1#1 := by rw [atScore_iff]; omega
  have e5 : ¬ atPoint i 2#32 0#32 := by rw [atRounds_iff]; omega
  have e6 : ¬ k0_cond6 i = 1#1 := by rw [atRetrieve_iff]; omega
  have e7 : ¬ k0_cond7 i = 1#1 := by rw [atOut_iff]; omega
  simp only [Mems.body, cc0__body_eq_skeleton]; unfold cc0__body_skel
  unfold owns
  iintro ⟨⟨%f3, %hf3, H3⟩, ⟨%f13, %hf13, H13⟩, ⟨%f14, %hf14, H14⟩, Hk⟩
  sl_exec (disch := first | sl_exact e1 | sl_exact e2 | sl_exact e3 | sl_exact e4 | sl_exact e5 | sl_exact e6 | sl_exact e7)
  sl_step
  iapply Hk
  isplitl [H3]
  · iexists _; isplitr
    · ipureintro; exact hf3
    iexact H3
  isplitl [H13]
  · iexists _; isplitr
    · ipureintro; exact hf13
    iexact H13
  iexists _; isplitr
  swap
  · iexact H14
  · ipureintro
    refine (View.read_writes_cons_put _ _ _ _ [] (k0_off1_eq i)).trans ?_; rw [View.writes_nil, View.readAt_full, View.readAt_full, hf14, hf13, hf3]

end Cert.KernelIdeal.Hand

end
-- ==== Proof.KernelIdeal.RunRounds.lean ====
module

public import proofs.«01_k».proof.Proof.KernelIdeal.Base

/-! The run of the first point of the retrieval phase. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (M : Mems) (i : grid0.Coords)

set_option maxHeartbeats 1000000 in
/-- The first point of the third phase computes the weights of the ten rounds and retrieves its value block with them. -/
theorem run_rounds (h0 : (i 0).val = 2) (h1 : (i 1).val = 0) (u : Vec F S2048x768 .f32) (p : Vec F S8x1x2048 .f32) (g : Vec F S8x1x2048 .f32) (v : Vec F S8x1x2048 .f32) (s : Vec F S8x4x2048 .f32) (w : Vec F S8x4x2048 .f32) (a : Vec F S4x768 .f32)
    (E : Set ℕ) (K : PUnit → sProp 𝕄) :
    iprop(owns (c : Thread nD τ) M.m4 fullShare u ∗ owns (c : Thread nD τ) M.m5 fullShare p ∗ owns (c : Thread nD τ) M.m6 fullShare g ∗ owns (c : Thread nD τ) M.m7 fullShare v ∗ owns (c : Thread nD τ) M.m14 fullShare s ∗ owns (c : Thread nD τ) M.m15 fullShare w ∗ owns (c : Thread nD τ) M.m16 fullShare a
        ∗ (iprop(owns (c : Thread nD τ) M.m4 fullShare u ∗ owns (c : Thread nD τ) M.m5 fullShare p ∗ owns (c : Thread nD τ) M.m6 fullShare g ∗ owns (c : Thread nD τ) M.m7 fullShare v ∗ owns (c : Thread nD τ) M.m14 fullShare s ∗ owns (c : Thread nD τ) M.m15 fullShare (weights s p g v) ∗ owns (c : Thread nD τ) M.m16 fullShare (retrieveAt i a (weights s p g v) u)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : ¬ atPool i := by rw [atPool_iff]; omega
  have e3 : ¬ atPoint i 1#32 0#32 := by rw [atProject_iff]; omega
  have e4 : ¬ k0_cond4 i = 1#1 := by rw [atScore_iff]; omega
  have e5 : atPoint i 2#32 0#32 := by rw [atRounds_iff]; omega
  have e6 : k0_cond6 i = 1#1 := by rw [atRetrieve_iff]; omega
  have e7 : ¬ k0_cond7 i = 1#1 := by rw [atOut_iff]; omega
  simp only [Mems.body, cc0__body_eq_skeleton]; unfold cc0__body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f4, %hf4, H4⟩, ⟨%f5, %hf5, H5⟩, ⟨%f6, %hf6, H6⟩, ⟨%f7, %hf7, H7⟩, ⟨%f14, %hf14, H14⟩, ⟨%f15, %hf15, H15⟩, ⟨%f16, %hf16, H16⟩, Hk⟩
  sl_exec (disch := first | sl_exact e1 | sl_exact e2 | sl_exact e3 | sl_exact e4 | sl_exact e5 | sl_exact e6 | sl_exact e7)
  sl_step
  iapply Hk
  have hW : weights (View.readAt (Elt F) m14.view (Rect.unit ![0, 0, 0] S8x4x2048.size inb_S8x4x2048_S8x4x2048_0_0_0).toLoadRect f14) (View.readAt (Elt F) m5.view (Rect.unit ![0, 0, 0] S8x1x2048.size inb_S8x1x2048_S8x1x2048_0_0_0).toLoadRect f5)
      (View.readAt (Elt F) m6.view (Rect.unit ![0, 0, 0] S8x1x2048.size inb_S8x1x2048_S8x1x2048_0_0_0).toLoadRect f6) (View.readAt (Elt F) m7.view (Rect.unit ![0, 0, 0] S8x1x2048.size inb_S8x1x2048_S8x1x2048_0_0_0).toLoadRect f7) = weights s p g v := by
    rw [View.readAt_full m14.view f14, View.readAt_full m5.view f5, View.readAt_full m6.view f6, View.readAt_full m7.view f7, hf14, hf5, hf6, hf7]
  isplitl [H4]
  · iexists _; isplitr
    · ipureintro; exact hf4
    iexact H4
  isplitl [H5]
  · iexists _; isplitr
    · ipureintro; exact hf5
    iexact H5
  isplitl [H6]
  · iexists _; isplitr
    · ipureintro; exact hf6
    iexact H6
  isplitl [H7]
  · iexists _; isplitr
    · ipureintro; exact hf7
    iexact H7
  isplitl [H14]
  · iexists _; isplitr
    · ipureintro; exact hf14
    iexact H14
  isplitl [H15]
  · iexists _; isplitr
    swap
    · iexact H15
    · ipureintro
      refine (View.read_writes_full _ _ _ _ _).trans ?_; exact hW
  iexists _; isplitr
  swap
  · iexact H16
  · ipureintro
    refine (View.read_writes_full _ _ _ _ _).trans ?_;
    have hw : run_rounds.sl.v31 c i m5 m6 m7 m14 m15 e6 f5 f6 f7 f14
        = VecWindow.window (weights s p g v) ![(i 1).val, 0, 0] S1x4x2048.size (slab_inb i) := by
      unfold run_rounds.sl.v31
      have hv : View.read (Elt F) m15.view (m15.view.writes (Elt F) m15.view.junk
          (run_rounds.sl.H15_1 c m5 m6 m7 m14 f5 f6 f7 f14)) = weights s p g v := by
        unfold run_rounds.sl.H15_1
        refine (View.read_writes_full _ _ _ _ []).trans ?_
        exact hW
      revert hv
      generalize m15.view.writes (Elt F) m15.view.junk _ = f
      intro hv
      rw [← hv]
      exact View.readAt_unit m15.view f _ (k0_off2_eq i) (slab_inb i)
    rw [hw]; exact congrArg₂ (fun y z => k0_pay7 y _ z) ((View.readAt_full _ _ _).trans hf16) ((View.readAt_full _ _ _).trans hf4)

end Cert.KernelIdeal.Hand

end
-- ==== Proof.KernelIdeal.RunRetrieve.lean ====
module

public import proofs.«01_k».proof.Proof.KernelIdeal.Base

/-! The runs of the later points of the retrieval phase. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (M : Mems) (i : grid0.Coords)

set_option maxHeartbeats 1000000 in
/-- A middle point of the third phase retrieves its value block. -/
theorem run_retrieve (h0 : (i 0).val = 2) (h1 : (i 1).val ≠ 0 ∧ (i 1).val ≠ 7) (u : Vec F S2048x768 .f32) (w : Vec F S8x4x2048 .f32) (a : Vec F S4x768 .f32)
    (E : Set ℕ) (K : PUnit → sProp 𝕄) :
    iprop(owns (c : Thread nD τ) M.m4 fullShare u ∗ owns (c : Thread nD τ) M.m15 fullShare w ∗ owns (c : Thread nD τ) M.m16 fullShare a
        ∗ (iprop(owns (c : Thread nD τ) M.m4 fullShare u ∗ owns (c : Thread nD τ) M.m15 fullShare w ∗ owns (c : Thread nD τ) M.m16 fullShare (retrieveAt i a w u)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : ¬ atPool i := by rw [atPool_iff]; omega
  have e3 : ¬ atPoint i 1#32 0#32 := by rw [atProject_iff]; omega
  have e4 : ¬ k0_cond4 i = 1#1 := by rw [atScore_iff]; omega
  have e5 : ¬ atPoint i 2#32 0#32 := by rw [atRounds_iff]; omega
  have e6 : k0_cond6 i = 1#1 := by rw [atRetrieve_iff]; omega
  have e7 : ¬ k0_cond7 i = 1#1 := by rw [atOut_iff]; omega
  simp only [Mems.body, cc0__body_eq_skeleton]; unfold cc0__body_skel
  unfold owns
  iintro ⟨⟨%f4, %hf4, H4⟩, ⟨%f15, %hf15, H15⟩, ⟨%f16, %hf16, H16⟩, Hk⟩
  sl_exec (disch := first | sl_exact e1 | sl_exact e2 | sl_exact e3 | sl_exact e4 | sl_exact e5 | sl_exact e6 | sl_exact e7)
  sl_step
  iapply Hk
  isplitl [H4]
  · iexists _; isplitr
    · ipureintro; exact hf4
    iexact H4
  isplitl [H15]
  · iexists _; isplitr
    · ipureintro; exact hf15
    iexact H15
  iexists _; isplitr
  swap
  · iexact H16
  · ipureintro
    refine (View.read_writes_full _ _ _ _ _).trans ?_; rw [View.readAt_full, View.readAt_full, View.readAt_unit _ _ _ (k0_off2_eq i) (slab_inb i), hf16, hf15, hf4]

set_option maxHeartbeats 1000000 in
/-- The last point retrieves its value block and writes the output. -/
theorem run_last (h0 : (i 0).val = 2) (h1 : (i 1).val = 7) (u : Vec F S2048x768 .f32) (wc : Vec F S768x768 .f32) (bc : Vec F S1x768 .f32) (o : Vec F S4x768 .f32) (w : Vec F S8x4x2048 .f32) (a : Vec F S4x768 .f32)
    (E : Set ℕ) (K : PUnit → sProp 𝕄) :
    iprop(owns (c : Thread nD τ) M.m4 fullShare u ∗ owns (c : Thread nD τ) M.m10 fullShare wc ∗ owns (c : Thread nD τ) M.m11 fullShare bc ∗ owns (c : Thread nD τ) M.m12 fullShare o ∗ owns (c : Thread nD τ) M.m15 fullShare w ∗ owns (c : Thread nD τ) M.m16 fullShare a
        ∗ (iprop(owns (c : Thread nD τ) M.m4 fullShare u ∗ owns (c : Thread nD τ) M.m10 fullShare wc ∗ owns (c : Thread nD τ) M.m11 fullShare bc ∗ owns (c : Thread nD τ) M.m12 fullShare (k0_pay8 (retrieveAt i a w u) wc bc) ∗ owns (c : Thread nD τ) M.m15 fullShare w ∗ owns (c : Thread nD τ) M.m16 fullShare (retrieveAt i a w u)) -∗ K ⟨⟩))
      ⊢ wp frame (wpE (defs₀ (F := F)) Variants.none c none) E (M.body i) K := by
  obtain ⟨m2, m3, m4, m5, m6, m7, m8, m9, m10, m11, m12, m13, m14, m15, m16, g2, g3, g4, g5, g6, g7, g8, g9, g10, g11, g12, g13, g14, g15, g16⟩ := M
  have e1 : ¬ atPoint i 0#32 0#32 := by rw [atInit_iff]; omega
  have e2 : ¬ atPool i := by rw [atPool_iff]; omega
  have e3 : ¬ atPoint i 1#32 0#32 := by rw [atProject_iff]; omega
  have e4 : ¬ k0_cond4 i = 1#1 := by rw [atScore_iff]; omega
  have e5 : ¬ atPoint i 2#32 0#32 := by rw [atRounds_iff]; omega
  have e6 : k0_cond6 i = 1#1 := by rw [atRetrieve_iff]; omega
  have e7 : k0_cond7 i = 1#1 := by rw [atOut_iff]; omega
  simp only [Mems.body, cc0__body_eq_skeleton]; unfold cc0__body_skel
  unfold owns
  iintro ⟨⟨%f4, %hf4, H4⟩, ⟨%f10, %hf10, H10⟩, ⟨%f11, %hf11, H11⟩, ⟨%f12, %hf12, H12⟩, ⟨%f15, %hf15, H15⟩, ⟨%f16, %hf16, H16⟩, Hk⟩
  sl_exec (disch := first | sl_exact e1 | sl_exact e2 | sl_exact e3 | sl_exact e4 | sl_exact e5 | sl_exact e6 | sl_exact e7)
  sl_step
  iapply Hk
  isplitl [H4]
  · iexists _; isplitr
    · ipureintro; exact hf4
    iexact H4
  isplitl [H10]
  · iexists _; isplitr
    · ipureintro; exact hf10
    iexact H10
  isplitl [H11]
  · iexists _; isplitr
    · ipureintro; exact hf11
    iexact H11
  isplitl [H12]
  · iexists _; isplitr
    swap
    · iexact H12
    · ipureintro
      refine (View.read_writes_full _ _ _ _ _).trans ?_;
      have ha : run_last.sl.v29 c i m4 m15 m16 e6 f4 f15 f16 = retrieveAt i a w u := (View.readCov_full _ _ _ _ []).trans (by
        rw [View.readAt_full, View.readAt_full, View.readAt_unit _ _ _ (k0_off2_eq i) (slab_inb i), hf16, hf15, hf4])
      rw [ha, View.readAt_full, View.readAt_full, hf10, hf11]
  isplitl [H15]
  · iexists _; isplitr
    · ipureintro; exact hf15
    iexact H15
  iexists _; isplitr
  swap
  · iexact H16
  · ipureintro
    refine (View.read_writes_full _ _ _ _ _).trans ?_; rw [View.readAt_full, View.readAt_full, View.readAt_unit _ _ _ (k0_off2_eq i) (slab_inb i), hf16, hf15, hf4]

end Cert.KernelIdeal.Hand

end
-- ==== Proof.KernelIdeal.Step.lean ====
module

public import proofs.«01_k».proof.Proof.KernelIdeal.RunPool
public import proofs.«01_k».proof.Proof.KernelIdeal.RunScore
public import proofs.«01_k».proof.Proof.KernelIdeal.RunRounds
public import proofs.«01_k».proof.Proof.KernelIdeal.RunRetrieve

/-! The body at any point, as one function of the scratch contents. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (M : Mems) (i : grid0.Coords)

/-- The ten input blocks of one point. -/
structure Ins (F : FTy → Type) where
  x : Vec F S4x256x768 .f32
  k : Vec F S2048x768 .f32
  u : Vec F S2048x768 .f32
  p : Vec F S8x1x2048 .f32
  g : Vec F S8x1x2048 .f32
  v : Vec F S8x1x2048 .f32
  wq : Vec F S768x768 .f32
  bq : Vec F S1x768 .f32
  wc : Vec F S768x768 .f32
  bc : Vec F S1x768 .f32

/-- The contents of the four scratch buffers: query, scores, weights, accumulated retrieval. -/
structure Scr (F : FTy → Type) where
  q : Vec F S4x768 .f32
  s : Vec F S8x4x2048 .f32
  w : Vec F S8x4x2048 .f32
  a : Vec F S4x768 .f32

/-- The scratch contents after a point, from those before it. -/
def step (B : Ins F) (σ : Scr F) : Scr F :=
  if (i 0).val = 0 then
    if (i 1).val = 0 then ⟨k0_pay3 (k0_pay1 (F := F)) B.x, σ.s, σ.w, k0_pay2 (F := F)⟩ else ⟨k0_pay3 σ.q B.x, σ.s, σ.w, σ.a⟩
  else if (i 0).val = 1 then
    if (i 1).val = 0 then ⟨k0_pay4 σ.q B.wq B.bq, scoreAt i σ.s (k0_pay4 σ.q B.wq B.bq) B.k, σ.w, σ.a⟩
    else ⟨σ.q, scoreAt i σ.s σ.q B.k, σ.w, σ.a⟩
  else if (i 1).val = 0 then ⟨σ.q, σ.s, weights σ.s B.p B.g B.v, retrieveAt i σ.a (weights σ.s B.p B.g B.v) B.u⟩
  else ⟨σ.q, σ.s, σ.w, retrieveAt i σ.a σ.w B.u⟩

/-- The output buffer after a point: written at the last one only. -/
def outStep (B : Ins F) (σ : Scr F) (o : Vec F S4x768 .f32) : Vec F S4x768 .f32 :=
  if (i 0).val = 2 ∧ (i 1).val = 7 then k0_pay8 (step i B σ).a B.wc B.bc else o

/-- All the buffers of one call at given contents. -/
abbrev Full (B : Ins F) (o : Vec F S4x768 .f32) (σ : Scr F) : sProp 𝕄 :=
  iprop(owns (c : Thread nD τ) M.m2 fullShare B.x ∗ owns (c : Thread nD τ) M.m3 fullShare B.k ∗ owns (c : Thread nD τ) M.m4 fullShare B.u ∗ owns (c : Thread nD τ) M.m5 fullShare B.p ∗ owns (c : Thread nD τ) M.m6 fullShare B.g ∗ owns (c : Thread nD τ) M.m7 fullShare B.v ∗ owns (c : Thread nD τ) M.m8 fullShare B.wq ∗ owns (c : Thread nD τ) M.m9 fullShare B.bq ∗ owns (c : Thread nD τ) M.m10 fullShare B.wc ∗ owns (c : Thread nD τ) M.m11 fullShare B.bc ∗ owns (c : Thread nD τ) M.m12 fullShare o
    ∗ owns (c : Thread nD τ) M.m13 fullShare σ.q ∗ owns (c : Thread nD τ) M.m14 fullShare σ.s ∗ owns (c : Thread nD τ) M.m15 fullShare σ.w ∗ owns (c : Thread nD τ) M.m16 fullShare σ.a)

/-- The body at any point: the inputs stay, the scratch and the output move by `step` and `outStep`. -/
theorem body_step (h2 : (i 0).val ≤ 2) (B : Ins F) (o : Vec F S4x768 .f32) (σ : Scr F) (E : Set ℕ) (K : PUnit → sProp 𝕄) :
    iprop(Full c M B o σ ∗ (Full c M B (outStep i B σ o) (step i B σ) -∗ K ⟨⟩))
      ⊢ wp frame (wpE (defs₀ (F := F)) Variants.none c none) E (M.body i) K := by
  obtain ⟨q, s, w, a⟩ := σ
  unfold outStep step
  by_cases e0 : (i 0).val = 0
  · have n0 : ¬ ((i 0).val = 2 ∧ (i 1).val = 7) := by omega
    rw [if_pos e0, if_neg n0]
    by_cases e1 : (i 1).val = 0
    · rw [if_pos e1]
      unfold Full
      dsimp only
      iintro ⟨⟨H2, H3, H4, H5, H6, H7, H8, H9, H10, H11, H12, H13, H14, H15, H16⟩, Hk⟩
      iapply (run_first c M i e0 e1 B.x q a E K)
      isplitl [H2]; · iexact H2
      isplitl [H13]; · iexact H13
      isplitl [H16]; · iexact H16
      iintro ⟨H2, H13, H16⟩
      iapply Hk
      iframe
    · rw [if_neg e1]
      unfold Full
      dsimp only
      iintro ⟨⟨H2, H3, H4, H5, H6, H7, H8, H9, H10, H11, H12, H13, H14, H15, H16⟩, Hk⟩
      iapply (run_pool c M i e0 e1 B.x q E K)
      isplitl [H2]; · iexact H2
      isplitl [H13]; · iexact H13
      iintro ⟨H2, H13⟩
      iapply Hk
      iframe
  · by_cases f0 : (i 0).val = 1
    · have n0 : ¬ ((i 0).val = 2 ∧ (i 1).val = 7) := by omega
      rw [if_neg e0, if_pos f0, if_neg n0]
      by_cases e1 : (i 1).val = 0
      · rw [if_pos e1]
        unfold Full
        dsimp only
        iintro ⟨⟨H2, H3, H4, H5, H6, H7, H8, H9, H10, H11, H12, H13, H14, H15, H16⟩, Hk⟩
        iapply (run_project c M i f0 e1 B.k B.wq B.bq q s E K)
        isplitl [H3]; · iexact H3
        isplitl [H8]; · iexact H8
        isplitl [H9]; · iexact H9
        isplitl [H13]; · iexact H13
        isplitl [H14]; · iexact H14
        iintro ⟨H3, H8, H9, H13, H14⟩
        iapply Hk
        iframe
      · rw [if_neg e1]
        unfold Full
        dsimp only
        iintro ⟨⟨H2, H3, H4, H5, H6, H7, H8, H9, H10, H11, H12, H13, H14, H15, H16⟩, Hk⟩
        iapply (run_score c M i f0 e1 B.k q s E K)
        isplitl [H3]; · iexact H3
        isplitl [H13]; · iexact H13
        isplitl [H14]; · iexact H14
        iintro ⟨H3, H13, H14⟩
        iapply Hk
        iframe
    · have g0 : (i 0).val = 2 := by omega
      rw [if_neg e0, if_neg f0]
      by_cases e1 : (i 1).val = 0
      · have n0 : ¬ ((i 0).val = 2 ∧ (i 1).val = 7) := by omega
        rw [if_pos e1, if_neg n0]
        unfold Full
        dsimp only
        iintro ⟨⟨H2, H3, H4, H5, H6, H7, H8, H9, H10, H11, H12, H13, H14, H15, H16⟩, Hk⟩
        iapply (run_rounds c M i g0 e1 B.u B.p B.g B.v s w a E K)
        isplitl [H4]; · iexact H4
        isplitl [H5]; · iexact H5
        isplitl [H6]; · iexact H6
        isplitl [H7]; · iexact H7
        isplitl [H14]; · iexact H14
        isplitl [H15]; · iexact H15
        isplitl [H16]; · iexact H16
        iintro ⟨H4, H5, H6, H7, H14, H15, H16⟩
        iapply Hk
        iframe
      · by_cases e7 : (i 1).val = 7
        · rw [if_neg e1, if_pos ⟨g0, e7⟩]
          unfold Full
          dsimp only
          iintro ⟨⟨H2, H3, H4, H5, H6, H7, H8, H9, H10, H11, H12, H13, H14, H15, H16⟩, Hk⟩
          iapply (run_last c M i g0 e7 B.u B.wc B.bc o w a E K)
          isplitl [H4]; · iexact H4
          isplitl [H10]; · iexact H10
          isplitl [H11]; · iexact H11
          isplitl [H12]; · iexact H12
          isplitl [H15]; · iexact H15
          isplitl [H16]; · iexact H16
          iintro ⟨H4, H10, H11, H12, H15, H16⟩
          iapply Hk
          iframe
        · have n0 : ¬ ((i 0).val = 2 ∧ (i 1).val = 7) := by omega
          rw [if_neg e1, if_neg n0]
          unfold Full
          dsimp only
          iintro ⟨⟨H2, H3, H4, H5, H6, H7, H8, H9, H10, H11, H12, H13, H14, H15, H16⟩, Hk⟩
          iapply (run_retrieve c M i g0 ⟨e1, e7⟩ B.u w a E K)
          isplitl [H4]; · iexact H4
          isplitl [H15]; · iexact H15
          isplitl [H16]; · iexact H16
          iintro ⟨H4, H15, H16⟩
          iapply Hk
          iframe

end Cert.KernelIdeal.Hand

end
-- ==== Proof.KernelIdeal.Invariant.lean ====
module

public import proofs.«01_k».proof.Proof.KernelIdeal.Step

/-! What the scratch buffers hold before each point, and that the body keeps it. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (c : Dev nD)

/-! ## The points -/

/-- Point `n` (the numbers past the last point wrap round and are never used). -/
def pt (n : ℕ) : Fin cfg0.N := ⟨n % 24, lt_of_lt_of_eq (Nat.mod_lt _ (by decide)) (show 24 = cfg0.N from N_0.symm)⟩
theorem pt_val (t : Fin cfg0.N) : pt t.val = t := by
  apply Fin.ext
  exact Nat.mod_eq_of_lt (lt_of_lt_of_eq t.isLt (show cfg0.N = 24 from N_0))
theorem coord0 : ∀ t : Fin cfg0.N, (grid0.coords t 0).val = t.val / 8 := (by decide +kernel : ∀ t : Fin grid0.N, (grid0.coords t 0).val = t.val / 8)
theorem coord1 : ∀ t : Fin cfg0.N, (grid0.coords t 1).val = t.val % 8 := (by decide +kernel : ∀ t : Fin grid0.N, (grid0.coords t 1).val = t.val % 8)

/-- The input blocks of point `t`. -/
def ins (t : Fin cfg0.N) : Ins F := ⟨iblk m c 0 t, iblk m c 1 t, iblk m c 2 t, iblk m c 3 t, iblk m c 4 t, iblk m c 5 t, iblk m c 6 t, iblk m c 7 t, iblk m c 8 t, iblk m c 9 t⟩

/-! ## What the scratch buffers hold -/

/-- The sum of the first `n` pooled blocks. -/
def pooled : ℕ → Vec F S4x768 .f32
  | 0 => k0_pay1
  | n + 1 => k0_pay3 (pooled n) (ins m c (pt n)).x
/-- The projected query. -/
def query : Vec F S4x768 .f32 := k0_pay4 (pooled m c 8) (ins m c (pt 8)).wq (ins m c (pt 8)).bq
/-- Where an index of the scores lies inside its block. -/
abbrev inSlab (y : S8x4x2048.Idx) : S1x4x2048.Idx := fun a => match a with
  | ⟨0, _⟩ => (⟨0, by decide⟩ : Fin 1)
  | ⟨1, _⟩ => (y 1 : Fin 4)
  | ⟨2, _⟩ => (y 2 : Fin 2048)
/-- The scores of the query against all keys. -/
def scores : Vec F S8x4x2048 .f32 := fun y => k0_pay5 (query m c) (ins m c (pt (8 + (y 0).val))).k (inSlab y)
/-- The weights of all rounds added up. -/
def totalWeights : Vec F S8x4x2048 .f32 := weights (scores m c) (ins m c (pt 16)).p (ins m c (pt 16)).g (ins m c (pt 16)).v
/-- The retrieval accumulated over the first `n` value blocks. -/
def gathered : ℕ → Vec F S4x768 .f32
  | 0 => k0_pay2
  | n + 1 => retrieveAt (grid0.coords (pt (16 + n))) (gathered n) (totalWeights m c) (ins m c (pt (16 + n))).u
/-- The output. -/
def result : Vec F S4x768 .f32 := k0_pay8 (gathered m c 8) (ins m c (pt 23)).wc (ins m c (pt 23)).bc

/-- What is known of the scratch before point `n`. -/
structure Inv (n : ℕ) (σ : Scr F) : Prop where
  pool : 1 ≤ n → n ≤ 8 → σ.q = pooled m c n
  proj : 9 ≤ n → σ.q = query m c
  zero : 1 ≤ n → n ≤ 16 → σ.a = gathered m c 0
  score : ∀ y : S8x4x2048.Idx, 8 + (y 0).val < n → σ.s y = scores m c y
  wts : 17 ≤ n → σ.w = totalWeights m c
  acc : 16 ≤ n → σ.a = gathered m c (n - 16)

theorem inv_zero (σ : Scr F) : Inv m c 0 σ := ⟨by omega, by omega, by omega, by omega, by omega, by omega⟩

/-- A score block put at block `j`: inside the block the new scores, elsewhere the old ones. -/
theorem score_put (t : Fin cfg0.N) (j : ℕ) (hj : (grid0.coords t 1).val = j) (s : Vec F S8x4x2048 .f32) (z : Vec F S1x4x2048 .f32) (y : S8x4x2048.Idx) :
    VecWindow.put s ![(grid0.coords t 1).val, 0, 0] S1x4x2048.size z y = if (y 0).val = j then z (inSlab y) else s y := by
  have h1 : (y 1).val < 4 := (y 1).isLt
  have h2 : (y 2).val < 2048 := (y 2).isLt
  unfold VecWindow.put
  by_cases h : (y 0).val = j
  · rw [if_pos h, dif_pos (by
      intro a; fin_cases a
      · exact ⟨show (grid0.coords t 1).val ≤ (y 0).val by omega, show (y 0).val < (grid0.coords t 1).val + 1 by omega⟩
      · exact ⟨Nat.zero_le _, show (y 1).val < 0 + 4 by omega⟩
      · exact ⟨Nat.zero_le _, show (y 2).val < 0 + 2048 by omega⟩)]
    congr 1
    funext a; apply Fin.ext; fin_cases a
    · show (y 0).val - (grid0.coords t 1).val = 0; omega
    · rfl
    · rfl
  · rw [if_neg h, dif_neg (by
      intro hall; have := hall 0
      have e1 : (grid0.coords t 1).val ≤ (y 0).val := this.1
      have e2 : (y 0).val < (grid0.coords t 1).val + 1 := this.2
      omega)]

/-- One point keeps it. -/
theorem inv_step (n : ℕ) (hn : n < 24) (σ : Scr F) (h : Inv m c n σ) : Inv m c (n + 1) (step (grid0.coords (pt n)) (ins m c (pt n)) σ) := by
  have hv : (pt n).val = n := Nat.mod_eq_of_lt hn
  have c0 : (grid0.coords (pt n) 0).val = n / 8 := by rw [coord0, hv]
  have c1 : (grid0.coords (pt n) 1).val = n % 8 := by rw [coord1, hv]
  have hs : ∀ y : S8x4x2048.Idx, (y 0).val < 8 := fun y => (y 0).isLt
  obtain ⟨q, s, w, a⟩ := σ
  obtain ⟨hq, hQ, hz, hS, hW, hA⟩ := h
  dsimp only at hq hQ hz hS hW hA
  unfold step
  rw [c0, c1]
  by_cases p0 : n / 8 = 0
  · rw [if_pos p0]
    by_cases p1 : n % 8 = 0
    · rw [if_pos p1]
      obtain rfl : n = 0 := by omega
      exact ⟨fun _ _ => rfl, by omega, fun _ _ => rfl, fun y hy => by omega, by omega, by omega⟩
    · rw [if_neg p1]
      refine ⟨fun _ _ => ?_, by omega, fun _ _ => hz (by omega) (by omega), fun y hy => by omega, by omega, by omega⟩
      dsimp only
      rw [hq (by omega) (by omega)]; rfl
  · rw [if_neg p0]
    by_cases q0 : n / 8 = 1
    · have key : ∀ y : S8x4x2048.Idx, 8 + (y 0).val < n + 1 → scoreAt (grid0.coords (pt n)) s (query m c) (ins m c (pt n)).k y = scores m c y := by
        intro y hy
        unfold scoreAt
        rw [score_put (pt n) (n % 8) c1]
        by_cases e : (y 0).val = n % 8
        · rw [if_pos e]
          have : 8 + (y 0).val = n := by omega
          unfold scores; rw [this]
        · rw [if_neg e]; exact hS y (by omega)
      rw [if_pos q0]
      by_cases p1 : n % 8 = 0
      · rw [if_pos p1]
        obtain rfl : n = 8 := by omega
        have e : k0_pay4 q (ins m c (pt 8)).wq (ins m c (pt 8)).bq = query m c := by rw [hq (by omega) (by omega)]; rfl
        refine ⟨by omega, fun _ => e, fun _ _ => hz (by omega) (by omega), fun y hy => ?_, by omega, by omega⟩
        dsimp only; rw [e]; exact key y hy
      · rw [if_neg p1]
        have e := hQ (by omega)
        refine ⟨by omega, fun _ => e, fun _ _ => hz (by omega) (by omega), fun y hy => ?_, by omega, fun _ => ?_⟩
        · dsimp only; rw [e]; exact key y hy
        · obtain rfl : n = 15 := by omega
          exact hz (by omega) (by omega)
    · rw [if_neg q0]
      have e := hQ (by omega)
      by_cases p1 : n % 8 = 0
      · rw [if_pos p1]
        obtain rfl : n = 16 := by omega
        obtain rfl : s = scores m c := funext fun y => hS y (by have := hs y; omega)
        refine ⟨by omega, fun _ => e, by omega, fun y _ => rfl, fun _ => rfl, fun _ => ?_⟩
        dsimp only
        rw [hA (by omega)]; rfl
      · rw [if_neg p1]
        obtain ⟨k, rfl⟩ : ∃ k, n = 16 + k := ⟨n - 16, by omega⟩
        refine ⟨by omega, fun _ => e, by omega, fun y _ => hS y (by have := hs y; omega), fun _ => hW (by omega), fun _ => ?_⟩
        dsimp only
        rw [hA (by omega), hW (by omega), show 16 + k - 16 = k by omega, show 16 + k + 1 - 16 = k + 1 by omega]; rfl

/-- The output buffer after the last point. -/
theorem out_last (t : Fin cfg0.N) (ht : t.val = 23) (σ : Scr F) (h : Inv m c t.val σ) (o : Vec F S4x768 .f32) :
    outStep (grid0.coords t) (ins m c t) σ o = result m c := by
  have i0 := coord0 t
  have i1 := coord1 t
  have hp : pt 23 = t := by rw [← ht]; exact pt_val t
  unfold outStep result
  rw [if_pos ⟨by omega, by omega⟩, hp]
  have := (inv_step m c 23 (by omega) σ (ht ▸ h)).acc (by omega)
  rw [hp] at this
  rw [this]

/-- Before it the output buffer is left alone. -/
theorem out_early (t : Fin cfg0.N) (ht : t.val ≠ 23) (σ : Scr F) (o : Vec F S4x768 .f32) :
    outStep (grid0.coords t) (ins m c t) σ o = o := by
  have i0 := coord0 t
  have i1 := coord1 t
  unfold outStep
  rw [if_neg (by omega)]

end Cert.KernelIdeal.Hand

end
-- ==== Proof.KernelIdeal.Frame.lean ====
module

public import proofs.«01_k».proof.Proof.KernelIdeal.Invariant
public import Idealize.ShloMosaic.Lib.Claim

/-! The launch: every point keeps the invariant, so the arguments end unchanged and the output array holds the result. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! ## The buffers of one point -/

abbrev scM0 : Memref sig .tc .vmem S4x768 .f32 := Memref.whole cc0_scratch0
abbrev scM1 : Memref sig .tc .vmem S8x4x2048 .f32 := Memref.whole cc0_scratch1
abbrev scM2 : Memref sig .tc .vmem S8x4x2048 .f32 := Memref.whole cc0_scratch2
abbrev scM3 : Memref sig .tc .vmem S4x768 .f32 := Memref.whole cc0_scratch3
abbrev stg0 (t : Fin cfg0.N) : Memref sig .tc .vmem S4x256x768 .f32 := win0_0.stage (cfg0.slots t 0)
abbrev stg1 (t : Fin cfg0.N) : Memref sig .tc .vmem S2048x768 .f32 := win0_1.stage (cfg0.slots t 1)
abbrev stg2 (t : Fin cfg0.N) : Memref sig .tc .vmem S2048x768 .f32 := win0_2.stage (cfg0.slots t 2)
abbrev stg3 (t : Fin cfg0.N) : Memref sig .tc .vmem S8x1x2048 .f32 := win0_3.stage (cfg0.slots t 3)
abbrev stg4 (t : Fin cfg0.N) : Memref sig .tc .vmem S8x1x2048 .f32 := win0_4.stage (cfg0.slots t 4)
abbrev stg5 (t : Fin cfg0.N) : Memref sig .tc .vmem S8x1x2048 .f32 := win0_5.stage (cfg0.slots t 5)
abbrev stg6 (t : Fin cfg0.N) : Memref sig .tc .vmem S768x768 .f32 := win0_6.stage (cfg0.slots t 6)
abbrev stg7 (t : Fin cfg0.N) : Memref sig .tc .vmem S1x768 .f32 := win0_7.stage (cfg0.slots t 7)
abbrev stg8 (t : Fin cfg0.N) : Memref sig .tc .vmem S768x768 .f32 := win0_8.stage (cfg0.slots t 8)
abbrev stg9 (t : Fin cfg0.N) : Memref sig .tc .vmem S1x768 .f32 := win0_9.stage (cfg0.slots t 9)
abbrev stg10 (t : Fin cfg0.N) : Memref sig .tc .vmem S4x768 .f32 := win0_10.stage (cfg0.slots t 10)

/-- The buffers the body is called on at point `t`. -/
abbrev memsAt (t : Fin cfg0.N) : Mems :=
  ⟨stg0 t, stg1 t, stg2 t, stg3 t, stg4 t, stg5 t, stg6 t, stg7 t, stg8 t, stg9 t, stg10 t, scM0, scM1, scM2, scM3,
    hstage0_0 ((cfg0.slots t 0).cast nbuf0_0), hstage0_1 ((cfg0.slots t 1).cast nbuf0_1), hstage0_2 ((cfg0.slots t 2).cast nbuf0_2), hstage0_3 ((cfg0.slots t 3).cast nbuf0_3), hstage0_4 ((cfg0.slots t 4).cast nbuf0_4), hstage0_5 ((cfg0.slots t 5).cast nbuf0_5), hstage0_6 ((cfg0.slots t 6).cast nbuf0_6), hstage0_7 ((cfg0.slots t 7).cast nbuf0_7), hstage0_8 ((cfg0.slots t 8).cast nbuf0_8), hstage0_9 ((cfg0.slots t 9).cast nbuf0_9), hstage0_10 ((cfg0.slots t 10).cast nbuf0_10),
    Memref.isWhole_whole _, Memref.isWhole_whole _, Memref.isWhole_whole _, Memref.isWhole_whole _⟩

theorem body_eq (t : Fin cfg0.N) : (bodyAt0 t : Prog (TpuEff nD τ sig (Elt F) Λ₀ .tc) PUnit) = (memsAt t).body (grid0.coords t) := rfl

theorem rest_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Output window 10 is idle and not written back before the last point, and live there. -/
theorem idle_early : ∀ t : Fin cfg0.N, t.val ≠ 23 → cfg0.idle 10 (grid0.coords t) = true := by decide +kernel
theorem noFlush_early : ∀ t : Fin cfg0.N, t.val ≠ 23 → (cfg0.win 10).flush t = false := by decide +kernel
theorem live_last : ∀ t : Fin cfg0.N, t.val = 23 → cfg0.idle 10 (grid0.coords t) = false := by decide +kernel

/-! ## The proof data -/

/-- Before point `n`: the four scratch buffers at contents of which `Inv n` is known. -/
def Phi (n : ℕ) : sProp 𝕄 :=
  iprop((∃ σ : Scr F, owns (c : Thread nD τ) scM0 fullShare σ.q ∗ owns (c : Thread nD τ) scM1 fullShare σ.s
    ∗ owns (c : Thread nD τ) scM2 fullShare σ.w ∗ owns (c : Thread nD τ) scM3 fullShare σ.a ∗ ⌜Inv m c n σ⌝) ∗ (∃ r, prngReg c r))

/-- The arrays as the region finds them; each input's buffer at its block; the output's at the result; the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => result m c
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem leaves_0 (c : Dev nD) (t : Fin cfg0.N) : (dats m 0 c).leavesExact 0 t = owns (c : Thread nD τ) (stg0 t) fullShare (iblk m c 0 t) := by
  unfold Dat.leavesExact; rw [show cfg0.idle 0 (cfg0.grid.coords t) = false from rfl, after_0]
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem leaves_1 (c : Dev nD) (t : Fin cfg0.N) : (dats m 0 c).leavesExact 1 t = owns (c : Thread nD τ) (stg1 t) fullShare (iblk m c 1 t) := by
  unfold Dat.leavesExact; rw [show cfg0.idle 1 (cfg0.grid.coords t) = false from rfl, after_1]
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem leaves_2 (c : Dev nD) (t : Fin cfg0.N) : (dats m 0 c).leavesExact 2 t = owns (c : Thread nD τ) (stg2 t) fullShare (iblk m c 2 t) := by
  unfold Dat.leavesExact; rw [show cfg0.idle 2 (cfg0.grid.coords t) = false from rfl, after_2]
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem leaves_3 (c : Dev nD) (t : Fin cfg0.N) : (dats m 0 c).leavesExact 3 t = owns (c : Thread nD τ) (stg3 t) fullShare (iblk m c 3 t) := by
  unfold Dat.leavesExact; rw [show cfg0.idle 3 (cfg0.grid.coords t) = false from rfl, after_3]
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem leaves_4 (c : Dev nD) (t : Fin cfg0.N) : (dats m 0 c).leavesExact 4 t = owns (c : Thread nD τ) (stg4 t) fullShare (iblk m c 4 t) := by
  unfold Dat.leavesExact; rw [show cfg0.idle 4 (cfg0.grid.coords t) = false from rfl, after_4]
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem leaves_5 (c : Dev nD) (t : Fin cfg0.N) : (dats m 0 c).leavesExact 5 t = owns (c : Thread nD τ) (stg5 t) fullShare (iblk m c 5 t) := by
  unfold Dat.leavesExact; rw [show cfg0.idle 5 (cfg0.grid.coords t) = false from rfl, after_5]
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d
theorem leaves_6 (c : Dev nD) (t : Fin cfg0.N) : (dats m 0 c).leavesExact 6 t = owns (c : Thread nD τ) (stg6 t) fullShare (iblk m c 6 t) := by
  unfold Dat.leavesExact; rw [show cfg0.idle 6 (cfg0.grid.coords t) = false from rfl, after_6]
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  before0_7_of m (dats m 0 c) (A_eq m c 7) (after_7 m c) t d
theorem leaves_7 (c : Dev nD) (t : Fin cfg0.N) : (dats m 0 c).leavesExact 7 t = owns (c : Thread nD τ) (stg7 t) fullShare (iblk m c 7 t) := by
  unfold Dat.leavesExact; rw [show cfg0.idle 7 (cfg0.grid.coords t) = false from rfl, after_7]
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t :=
  before0_8_of m (dats m 0 c) (A_eq m c 8) (after_8 m c) t d
theorem leaves_8 (c : Dev nD) (t : Fin cfg0.N) : (dats m 0 c).leavesExact 8 t = owns (c : Thread nD τ) (stg8 t) fullShare (iblk m c 8 t) := by
  unfold Dat.leavesExact; rw [show cfg0.idle 8 (cfg0.grid.coords t) = false from rfl, after_8]
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t :=
  before0_9_of m (dats m 0 c) (A_eq m c 9) (after_9 m c) t d
theorem leaves_9 (c : Dev nD) (t : Fin cfg0.N) : (dats m 0 c).leavesExact 9 t = owns (c : Thread nD τ) (stg9 t) fullShare (iblk m c 9 t) := by
  unfold Dat.leavesExact; rw [show cfg0.idle 9 (cfg0.grid.coords t) = false from rfl, after_9]
theorem after_10 (c : Dev nD) (t : Fin cfg0.N) : (dats m 0 c).after 10 t = result m c := by dsimp only [dats]
theorem leaves_last (c : Dev nD) (t : Fin cfg0.N) (ht : t.val = 23) :
    (dats m 0 c).leavesExact 10 t = owns (c : Thread nD τ) (stg10 t) fullShare (result m c) := by
  unfold Dat.leavesExact; rw [live_last t ht, after_10]
theorem leaves_early (c : Dev nD) (t : Fin cfg0.N) (ht : t.val ≠ 23) :
    (dats m 0 c).leavesExact 10 t = iprop(∃ d, owns (c : Thread nD τ) (stg10 t) fullShare ((dats m 0 c).before 10 t d)) :=
  Dat.leavesExact_idle (dats m 0 c) 10 t (idle_early t ht) (noFlush_early t ht)

/-- The output buffer the body leaves is the one the point owes. -/
theorem leaves_out (c : Dev nD) (t : Fin cfg0.N) (σ : Scr F) (h : Inv m c t.val σ) (d) :
    owns (c : Thread nD τ) (stg10 t) fullShare (outStep (grid0.coords t) (ins m c t) σ ((dats m 0 c).before 10 t d)) ⊢ (dats m 0 c).leavesExact 10 t := by
  by_cases ht : t.val = 23
  · rw [leaves_last m c t ht, out_last m c t ht σ h]
    try exact Idealize.SL.BI.Entails.refl _
  · rw [leaves_early m c t ht, out_early m c t ht]
    iintro H; iexists d; iexact H

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 24 := lt_of_lt_of_eq t.isLt (show cfg0.N = 24 from N_0)
  have i0 := coord0 t
  unfold bodyPre bodyPost
  rw [body_eq]
  simp only [before_0, leaves_0, before_1, leaves_1, before_2, leaves_2, before_3, leaves_3, before_4, leaves_4, before_5, leaves_5, before_6, leaves_6, before_7, leaves_7, before_8, leaves_8, before_9, leaves_9]
  rw [show (dats m 0 c).owesAt () t.succ = (dats m 0 c).owesAt () t.castSucc from rfl,
    show (dats m 0 c).Φ t.succ = Phi m c (t.val + 1) from rfl,
    show (dats m 0 c).Φ t.castSucc = Phi m c t.val from rfl]
  unfold Phi
  iintro ⟨⟨⟨%σ, HS0, HS1, HS2, HS3, %hσ⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hnext : Inv m c (t.val + 1) (step (grid0.coords t) (ins m c t) σ) := by
    have := inv_step m c t.val ht σ hσ
    rwa [pt_val] at this
  iapply (body_step c (memsAt t) (grid0.coords t) (by omega) (ins m c t) ((dats m 0 c).before 10 t d10) σ Set.univ _)
  isplitl [H0 H1 H2 H3 H4 H5 H6 H7 H8 H9 H10 HS0 HS1 HS2 HS3]
  · unfold Full
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    iexact HS3
  unfold Full
  iintro ⟨H0, H1, H2, H3, H4, H5, H6, H7, H8, H9, H10, HS0, HS1, HS2, HS3⟩
  isplitl [HS0 HS1 HS2 HS3 Hg]
  · isplitl [HS0 HS1 HS2 HS3]
    · iexists (step (grid0.coords t) (ins m c t) σ)
      isplitl [HS0]; · iexact HS0
      isplitl [HS1]; · iexact HS1
      isplitl [HS2]; · iexact HS2
      isplitl [HS3]; · iexact HS3
      ipureintro; exact hnext
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iapply (leaves_out m c t σ hσ d10)
  iexact H10

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-- The launch hands the region its scratch at any contents, of which nothing is claimed before the first point. -/
theorem hin (c : Dev nD) : Pipeline.ΦA spec0 c ⊢ (dats m 0 c).Φ 0 := by
  rw [show (dats m 0 c).Φ 0 = Phi m c 0 from rfl, rest_eq]
  unfold Phi
  iintro ⟨⟨⟨%d0, HS0⟩, ⟨%d1, HS1⟩, ⟨%d2, HS2⟩, ⟨%d3, HS3⟩⟩, Hg⟩
  isplitl [HS0 HS1 HS2 HS3]
  · iexists (⟨d0, d1, d2, d3⟩ : Scr F)
    isplitl [HS0]; · iexact HS0
    isplitl [HS1]; · iexact HS1
    isplitl [HS2]; · iexact HS2
    isplitl [HS3]; · iexact HS3
    ipureintro; exact inv_zero m c _
  iexact Hg

/-- After the last point the scratch goes back, its contents forgotten. -/
theorem hout (c : Dev nD) : (dats m 0 c).Φ (Fin.last cfg0.N) ⊢ Pipeline.ΦA spec0 c := by
  rw [show (dats m 0 c).Φ (Fin.last cfg0.N) = Phi m c (Fin.last cfg0.N).val from rfl, rest_eq]
  unfold Phi
  iintro ⟨⟨%σ, HS0, HS1, HS2, HS3, %hσ⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

/-! ## The launch -/

set_option backward.isDefEq.respectTransparency.types false in
/-- Every weakly fair execution of `@main` ends, at the arrays the proof data name and with every counter at zero. -/
theorem main_ends : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem main_post : θ_run defs (onTc (τ := τ) (main (F := F))) (s₀ m ρ) (Pipeline.FramePost cfgs (dats m) 0 (V m)) :=
  (θ_run defs _ _).mono (fun _ h => h.1) (main_ends m ρ)

/-- The frame claim's statement: the arguments end unchanged and the counters at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (main_post m ρ)) ((θ_run defs _ _).mono (fun _ h => h.2) (main_ends m ρ))

end Cert.KernelIdeal.Hand

end
-- ==== Proof.Frames.lean ====
module

public import proofs.«01_k».proof.Defs
public import proofs.«01_k».proof.Proof.KernelIdeal.Frame
public import proofs.«01_k».proof.Proof.Kernel.Frame
public import proofs.«01_k».proof.Proof.Gen.ReferenceIdeal.Run

/-! The three frame claims and the idealization of the kernel's constants. -/

@[expose] public section

set_option maxRecDepth 16384

noncomputable section

namespace Cert.Proof

open Idealize.ShloMosaic Idealize.SL.Sem

theorem frame_kernel : Cert.quiescent_Kernel := fun m ρ _ => Cert.Kernel.Hand.frame_main m ρ

theorem frame_ideal : Cert.quiescent_KernelIdeal := fun m ρ _ => Cert.KernelIdeal.Hand.frame_main m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

end Cert.Proof

end
-- ==== Proof.Value.Blocks.lean ====
module

public import proofs.«01_k».proof.Proof.KernelIdeal.Frame
public import Idealize.ShloMosaic.Lib.ValueLayout
public import Idealize.ShloMosaic.Lib.Pipeline.ValueKit

/-! The blocks the body reads, as entries of the arguments; and the output array, as what the body leaves at the last
    point. -/

@[expose] public section

set_option maxRecDepth 16384

noncomputable section

namespace Cert.KernelIdeal.Hand

open Cert.KernelIdeal Cert.KernelIdeal.Gen
open Idealize.ShloMosaic hiding ix1 ix2 ix3
open Idealize.ShloMosaic.TcCoe Idealize.ShloMosaic.Tactic Idealize.ShloMosaic.StableHlo Idealize.ShloMosaic.ValueIdx
open Idealize.SL.Sem

variable {F : FTy → Type} [FloatOps F] [Named F] (m : (ℓ : Loc nD τ sig) → Buf (Elt F) ℓ) (c : Dev nD)

theorem pt_of (n : ℕ) (h : n < 24) : (pt n).val = n := Nat.mod_eq_of_lt h

/-! ## Where the blocks lie -/

theorem index_0 : ∀ t : Fin cfg0.N, t.val < 8 → win0_0.index t = ![0, t.val, 0] :=
  (by decide +kernel : ∀ t : Fin grid0.N, t.val < 8 → win0_0.index t = ![0, t.val, 0])
theorem index_1 : ∀ t : Fin cfg0.N, 8 ≤ t.val → t.val < 16 → win0_1.index t = ![t.val - 8, 0] :=
  (by decide +kernel : ∀ t : Fin grid0.N, 8 ≤ t.val → t.val < 16 → win0_1.index t = ![t.val - 8, 0])
theorem index_2 : ∀ t : Fin cfg0.N, 16 ≤ t.val → win0_2.index t = ![t.val - 16, 0] :=
  (by decide +kernel : ∀ t : Fin grid0.N, 16 ≤ t.val → win0_2.index t = ![t.val - 16, 0])
theorem index_3 : ∀ t : Fin cfg0.N, win0_3.index t = ![0, 0, 0] := (by decide +kernel : ∀ t : Fin grid0.N, win0_3.index t = ![0, 0, 0])
theorem index_4 : ∀ t : Fin cfg0.N, win0_4.index t = ![0, 0, 0] := (by decide +kernel : ∀ t : Fin grid0.N, win0_4.index t = ![0, 0, 0])
theorem index_5 : ∀ t : Fin cfg0.N, win0_5.index t = ![0, 0, 0] := (by decide +kernel : ∀ t : Fin grid0.N, win0_5.index t = ![0, 0, 0])
theorem index_6 : ∀ t : Fin cfg0.N, win0_6.index t = ![0, 0] := (by decide +kernel : ∀ t : Fin grid0.N, win0_6.index t = ![0, 0])
theorem index_7 : ∀ t : Fin cfg0.N, win0_7.index t = ![0, 0] := (by decide +kernel : ∀ t : Fin grid0.N, win0_7.index t = ![0, 0])
theorem index_8 : ∀ t : Fin cfg0.N, win0_8.index t = ![0, 0] := (by decide +kernel : ∀ t : Fin grid0.N, win0_8.index t = ![0, 0])
theorem index_9 : ∀ t : Fin cfg0.N, win0_9.index t = ![0, 0] := (by decide +kernel : ∀ t : Fin grid0.N, win0_9.index t = ![0, 0])

/-! ## The arrays the region finds -/

theorem V_pri : V m c main_call0_v0 = shapeCast S8x1x2048 (m ((c : Thread nD τ).loc main_arg3)) shapeCasts_S16384_S8x1x2048 := by
  dsimp only [V, hostOps0]; after_results; rfl
theorem V_age : V m c main_call0_v2 = shapeCast S8x1x2048 (sitofp .f32 (m ((c : Thread nD τ).loc main_arg8))) shapeCasts_S16384_S8x1x2048 := by
  dsimp only [V, hostOps0]; after_results; rfl
theorem V_mask : V m c main_call0_v4 = shapeCast S8x1x2048 (uitofp .f32 (m ((c : Thread nD τ).loc main_arg9))) shapeCasts_S16384_S8x1x2048 := by
  dsimp only [V, hostOps0]; after_results; rfl
theorem V_bq : V m c main_call0_v5 = shapeCast S1x768 (m ((c : Thread nD τ).loc main_arg5)) shapeCasts_S768_S1x768 := by
  dsimp only [V, hostOps0]; after_results; rfl
theorem V_bc : V m c main_call0_v6 = shapeCast S1x768 (m ((c : Thread nD τ).loc main_arg7)) shapeCasts_S768_S1x768 := by
  dsimp only [V, hostOps0]; after_results; rfl

/-! ## The blocks -/

theorem x_apply (n : ℕ) (hn : n < 8) (b : Fin 4) (t : Fin 256) (d : Fin 768) :
    (ins m c (pt n)).x (ix3 b t d) = m ((c : Thread nD τ).loc main_arg0) (ix3 b (⟨n * 256 + t.val, by omega⟩ : Fin 2048) d) := by
  have e := index_0 (pt n) (by rw [pt_of n (by omega)]; exact hn)
  rw [pt_of n (by omega)] at e
  rw [← V_main_arg0 m c]
  show iblk m c 0 (pt n) (ix3 b t d) = _
  unfold iblk
  exact congrArg (V m c main_arg0) (by blk_ext [e])

theorem k_apply (n : ℕ) (hn : n < 8) (i : Fin 2048) (d : Fin 768) :
    (ins m c (pt (8 + n))).k (ix2 i d) = m ((c : Thread nD τ).loc main_arg1) (ix2 (⟨n * 2048 + i.val, by omega⟩ : Fin 16384) d) := by
  have e := index_1 (pt (8 + n)) (by rw [pt_of _ (by omega)]; omega) (by rw [pt_of _ (by omega)]; omega)
  rw [pt_of _ (by omega), Nat.add_sub_cancel_left] at e
  rw [← V_main_arg1 m c]
  show iblk m c 1 (pt (8 + n)) (ix2 i d) = _
  unfold iblk
  exact congrArg (V m c main_arg1) (by blk_ext [e])

theorem u_apply (n : ℕ) (hn : n < 8) (i : Fin 2048) (d : Fin 768) :
    (ins m c (pt (16 + n))).u (ix2 i d) = m ((c : Thread nD τ).loc main_arg2) (ix2 (⟨n * 2048 + i.val, by omega⟩ : Fin 16384) d) := by
  have e := index_2 (pt (16 + n)) (by rw [pt_of _ (by omega)]; omega)
  rw [pt_of _ (by omega), Nat.add_sub_cancel_left] at e
  rw [← V_main_arg2 m c]
  show iblk m c 2 (pt (16 + n)) (ix2 i d) = _
  unfold iblk
  exact congrArg (V m c main_arg2) (by blk_ext [e])

variable (t : Fin cfg0.N)

theorem p_eq : (ins m c t).p = shapeCast S8x1x2048 (m ((c : Thread nD τ).loc main_arg3)) shapeCasts_S16384_S8x1x2048 := by
  rw [← V_pri]
  funext y
  show iblk m c 3 t y = _
  unfold iblk
  exact congrArg (V m c main_call0_v0) (by blk_ext [index_3 t])
theorem g_eq : (ins m c t).g = shapeCast S8x1x2048 (sitofp .f32 (m ((c : Thread nD τ).loc main_arg8))) shapeCasts_S16384_S8x1x2048 := by
  rw [← V_age]
  funext y
  show iblk m c 4 t y = _
  unfold iblk
  exact congrArg (V m c main_call0_v2) (by blk_ext [index_4 t])
theorem v_eq : (ins m c t).v = shapeCast S8x1x2048 (uitofp .f32 (m ((c : Thread nD τ).loc main_arg9))) shapeCasts_S16384_S8x1x2048 := by
  rw [← V_mask]
  funext y
  show iblk m c 5 t y = _
  unfold iblk
  exact congrArg (V m c main_call0_v4) (by blk_ext [index_5 t])
theorem wq_eq : (ins m c t).wq = m ((c : Thread nD τ).loc main_arg4) := by
  rw [← V_main_arg4 m c]
  funext y
  show iblk m c 6 t y = _
  unfold iblk
  exact congrArg (V m c main_arg4) (by blk_ext [index_6 t])
theorem bq_eq : (ins m c t).bq = shapeCast S1x768 (m ((c : Thread nD τ).loc main_arg5)) shapeCasts_S768_S1x768 := by
  rw [← V_bq]
  funext y
  show iblk m c 7 t y = _
  unfold iblk
  exact congrArg (V m c main_call0_v5) (by blk_ext [index_7 t])
theorem wc_eq : (ins m c t).wc = m ((c : Thread nD τ).loc main_arg6) := by
  rw [← V_main_arg6 m c]
  funext y
  show iblk m c 8 t y = _
  unfold iblk
  exact congrArg (V m c main_arg6) (by blk_ext [index_8 t])
theorem bc_eq : (ins m c t).bc = shapeCast S1x768 (m ((c : Thread nD τ).loc main_arg7)) shapeCasts_S768_S1x768 := by
  rw [← V_bc]
  funext y
  show iblk m c 9 t y = _
  unfold iblk
  exact congrArg (V m c main_call0_v6) (by blk_ext [index_9 t])

/-! ## The output array -/

/-- The output array ends at the result. -/
theorem final : (dats m 0 c).arrAt 10 cfg0.N = result m c := by
  refine (dats m 0 c).arrAt_eq_of_after_last 10 (pt 23) (by decide +kernel) _ fun j => ?_
  blk_simp
  rw [after_10]

end Cert.KernelIdeal.Hand

end
-- ==== Proof.Value.Round.lean ====
module

public import Idealize.ShloMosaic.PureOps.Ideal
public import Idealize.ShloMosaic.PureOps.Ideal.Laws
public import Idealize.ShloMosaic.Lib.ValueIdx

/-! One round of the replay over the extended reals, on any finite set of memories: from the scores, the effective
    priorities and the validity of the memories to the weights the round retrieves with. The kernel keeps its memories
    in eight rows and the reference in one; the round is the same function of both, and its weights are real numbers
    whatever the scores and priorities are. -/

@[expose] public section

noncomputable section

namespace Cert.Value

open Idealize.ShloMosaic

variable {ι κ : Type} [Fintype ι] [Fintype κ]

/-- The small number both programs add before a logarithm and under a quotient. -/
def tiny : EReal := Ideal.ofBits .f32 0x322BCC77#32
/-- The priority threshold. -/
def half : EReal := Ideal.ofBits .f32 0x3F000000#32
/-- The steepness of the soft threshold. -/
def steep : EReal := Ideal.ofBits .f32 0x41200000#32

theorem tiny_pos : ∃ r : ℝ, 0 < r ∧ tiny = r := by
  refine ⟨_, ?_, by simp only [tiny, Ideal.ofBits, Ideal.ieee]; rw [if_neg (by decide), if_neg (by decide)]⟩
  simp

/-- The attention logits. -/
def logit (s e : ι → EReal) (n : ι) : EReal := s n + Ideal.log (e n + tiny)
/-- The greatest logit. -/
def peak (s e : ι → EReal) : EReal := Finset.univ.sup (logit s e)
/-- The exponential of a logit's distance from the greatest. -/
def share (s e : ι → EReal) (n : ι) : EReal := Ideal.exp (logit s e n - peak s e)
/-- The softmax of the logits. -/
def attention (s e : ι → EReal) (n : ι) : EReal := Ideal.div (share s e n) (∑ k, share s e k)
/-- The soft selection of the valid memories whose effective priority is above the threshold. -/
def active (e v : ι → EReal) (n : ι) : EReal := Ideal.logistic ((e n - half) * steep) * v n
/-- The attention on the selected memories. -/
def gated (s e v : ι → EReal) (n : ι) : EReal := attention s e n * active e v n
/-- The weights of the round: the selected attention, divided by its sum. -/
def weight (s e v : ι → EReal) (n : ι) : EReal := Ideal.div (gated s e v n) ((∑ k, gated s e v k) + tiny)

/-! ## Renaming the memories -/

theorem peak_comp (σ : κ ≃ ι) (s e : ι → EReal) : peak (fun k => s (σ k)) (fun k => e (σ k)) = peak s e := by
  apply le_antisymm
  · exact Finset.sup_le fun k _ => Finset.le_sup (f := logit s e) (Finset.mem_univ (σ k))
  · refine Finset.sup_le fun n _ => ?_
    have := Finset.le_sup (f := logit (fun k => s (σ k)) (fun k => e (σ k))) (Finset.mem_univ (σ.symm n))
    simpa [logit, peak] using this

theorem share_comp (σ : κ ≃ ι) (s e : ι → EReal) (k : κ) :
    share (fun k => s (σ k)) (fun k => e (σ k)) k = share s e (σ k) := by
  unfold share; rw [peak_comp]; rfl

theorem gated_comp (σ : κ ≃ ι) (s e v : ι → EReal) (k : κ) :
    gated (fun k => s (σ k)) (fun k => e (σ k)) (fun k => v (σ k)) k = gated s e v (σ k) := by
  unfold gated attention
  rw [share_comp, Finset.sum_congr rfl fun k _ => share_comp σ s e k, Equiv.sum_comp σ (share s e)]
  rfl

/-- Renaming the memories renames the weights. -/
theorem weight_comp (σ : κ ≃ ι) (s e v : ι → EReal) (k : κ) :
    weight (fun k => s (σ k)) (fun k => e (σ k)) (fun k => v (σ k)) k = weight s e v (σ k) := by
  unfold weight
  rw [gated_comp, Finset.sum_congr rfl fun k _ => gated_comp σ s e v k, Equiv.sum_comp σ (gated s e v)]

/-! ## The weights are real numbers -/

/-- A real number that is not negative. -/
def Nonneg (x : EReal) : Prop := ∃ r : ℝ, 0 ≤ r ∧ x = r

theorem Nonneg.mul {x y : EReal} (hx : Nonneg x) (hy : Nonneg y) : Nonneg (x * y) := by
  obtain ⟨a, ha, rfl⟩ := hx; obtain ⟨b, hb, rfl⟩ := hy
  exact ⟨a * b, mul_nonneg ha hb, by push_cast; rfl⟩

/-- A finite sum of real numbers, taken among the extended reals. -/
theorem coe_sum {α : Type} (t : Finset α) (r : α → ℝ) : ((∑ n ∈ t, r n : ℝ) : EReal) = ∑ n ∈ t, (r n : EReal) := by
  classical
  induction t using Finset.induction_on with
  | empty => simp
  | insert a t ha ih => rw [Finset.sum_insert ha, Finset.sum_insert ha, EReal.coe_add, ih]

theorem Nonneg.sum {f : ι → EReal} (h : ∀ n, Nonneg (f n)) : Nonneg (∑ n, f n) := by
  choose r hr e using h
  refine ⟨∑ n, r n, Finset.sum_nonneg fun n _ => hr n, ?_⟩
  rw [Finset.sum_congr rfl fun n _ => e n, coe_sum]

/-- A quotient by a positive real is real. -/
theorem Nonneg.div {x y : EReal} (hx : Nonneg x) (hy : Nonneg y) (h0 : y ≠ 0) : Nonneg (Ideal.div x y) := by
  obtain ⟨a, ha, rfl⟩ := hx; obtain ⟨b, hb, rfl⟩ := hy
  have hb0 : b ≠ 0 := fun h => h0 (by rw [h]; rfl)
  rw [Ideal.div_coe hb0]
  exact ⟨a * (1 / b), by positivity, by push_cast; rfl⟩

theorem Nonneg.add_tiny {x : EReal} (hx : Nonneg x) : Nonneg (x + tiny) ∧ x + tiny ≠ 0 := by
  obtain ⟨a, ha, rfl⟩ := hx; obtain ⟨t, ht, e⟩ := tiny_pos
  rw [e]
  refine ⟨⟨a + t, by positivity, by push_cast; rfl⟩, ?_⟩
  rw [← EReal.coe_add, ← EReal.coe_zero, Ne, EReal.coe_eq_coe_iff]; positivity

/-- The exponential of what is not above zero is real. -/
theorem exp_nonneg_of_nonpos {x : EReal} (h : x ≤ 0) : Nonneg (Ideal.exp x) := by
  induction x with
  | bot => exact ⟨0, le_rfl, rfl⟩
  | coe r => exact ⟨_, (Real.exp_pos r).le, rfl⟩
  | top => exact absurd h (by simp)

theorem share_nonneg (s e : ι → EReal) (n : ι) : Nonneg (share s e n) := by
  apply exp_nonneg_of_nonpos
  have h : logit s e n ≤ peak s e := Finset.le_sup (f := logit s e) (Finset.mem_univ n)
  exact EReal.sub_nonpos.mpr h

theorem logistic_nonneg (x : EReal) : Nonneg (Ideal.logistic x) := by
  induction x with
  | bot => exact ⟨0, le_rfl, by simp⟩
  | coe r => exact ⟨_, by positivity, Ideal.logistic_coe r⟩
  | top => exact ⟨1, zero_le_one, by simp⟩

theorem active_nonneg (e v : ι → EReal) (hv : ∀ n, Nonneg (v n)) (n : ι) : Nonneg (active e v n) :=
  (logistic_nonneg _).mul (hv n)

/-- Where no logit is finite the softmax is undefined everywhere; then the selected attention is zero on the memories
    not selected and undefined on the others, and every quotient by its sum is still zero. -/
theorem weight_undefined (a : ι → EReal) (ha : ∀ n, Nonneg (a n)) (n : ι) :
    Ideal.div (⊥ * a n) ((∑ k, ⊥ * a k) + tiny) = 0 := by
  obtain ⟨t, ht, e⟩ := tiny_pos
  have cases : ∀ k, ⊥ * a k = 0 ∨ ⊥ * a k = (⊥ : EReal) := by
    intro k
    obtain ⟨r, hr, e⟩ := ha k
    rcases hr.eq_or_lt with h | h
    · left; rw [e, ← h]; simp
    · right; rw [e, EReal.bot_mul_coe_of_pos h]
  by_cases h : ∀ k, ⊥ * a k = 0
  · rw [h n, Finset.sum_congr rfl fun k _ => h k, Finset.sum_const_zero, zero_add, e, Ideal.div_coe ht.ne', zero_mul]
  · push Not at h
    obtain ⟨k, hk⟩ := h
    have hb := (cases k).resolve_left hk
    have hs : (∑ k, ⊥ * a k) = (⊥ : EReal) := by
      classical
      rw [← Finset.add_sum_erase _ _ (Finset.mem_univ k), hb, EReal.bot_add]
    rw [hs, EReal.bot_add]
    unfold Ideal.div
    rw [if_neg (by simp), EReal.inv_bot, mul_zero]

/-- The weights of a round are real, whatever the scores and the priorities. -/
theorem weight_nonneg (s e v : ι → EReal) (hv : ∀ n, Nonneg (v n)) (n : ι) : Nonneg (weight s e v n) := by
  have hS : Nonneg (∑ k, share s e k) := .sum (share_nonneg s e)
  by_cases h0 : (∑ k, share s e k) = 0
  · have hz : ∀ k, share s e k = 0 := by
      have := (Finset.sum_eq_zero_iff_of_nonneg (fun k _ => by
        obtain ⟨r, hr, e⟩ := share_nonneg s e k; rw [e]; exact_mod_cast hr)).mp h0
      exact fun k => this k (Finset.mem_univ k)
    have hb : ∀ k, attention s e k = ⊥ := fun k => by
      unfold attention Ideal.div; rw [h0, hz k, if_pos rfl, if_neg (lt_irrefl _)]
    have : weight s e v n = 0 := by
      unfold weight gated
      simp only [hb]
      exact weight_undefined _ (active_nonneg e v hv) n
    exact ⟨0, le_rfl, this⟩
  · have hg : ∀ k, Nonneg (gated s e v k) := fun k => ((share_nonneg s e k).div hS h0).mul (active_nonneg e v hv k)
    have ht := (Nonneg.sum hg).add_tiny
    exact (hg n).div ht.1 ht.2

end Cert.Value

end
-- ==== Proof.Value.KernelRound.lean ====
module

public import proofs.«01_k».proof.Proof.KernelIdeal.Base
public import proofs.«01_k».proof.Proof.Value.Round
public import Idealize.ShloMosaic.Lib.ValueLayout

/-! The kernel's rounds as rounds over the memories: the kernel keeps the memories as eight rows of 2048, and each of its
    ten rounds adds to the weights the round's weights over the pairs (row, lane). -/

@[expose] public section

set_option maxRecDepth 16384

noncomputable section

namespace Cert.KernelIdeal.Hand

open Cert.KernelIdeal Cert.KernelIdeal.Gen
open Idealize.ShloMosaic Idealize.ShloMosaic.ValueIdx
open Cert.Value

section Generic
variable {F : FTy → Type} [FloatOps F] [Named F]

/-- The sum over all memories, kept per batch row. -/
def total (x : FVec F S8x4x2048 .f32) : FVec F S1x4x1 .f32 :=
  shapeCast S1x4x1 (multiReduction .add [0, 2] S4 x 0x00000000#32 reduces_S8x4x2048_S4 (.inl rfl) rfl) shapeCasts_S4_S1x4x1
/-- The attention logits as the kernel computes them. -/
def logits (s : Vec F S8x4x2048 .f32) (e : FVec F S8x1x2048 .f32) : FVec F S8x4x2048 .f32 :=
  addf s (broadcastTo S8x4x2048 (log (addf e (broadcast S8x1x2048 (Scalar.ofBits .f32 0x322BCC77#32)))) broadcasts_S8x1x2048_S8x4x2048)
/-- The greatest logit of each batch row. -/
def greatest (s : Vec F S8x4x2048 .f32) (e : FVec F S8x1x2048 .f32) : FVec F S4 .f32 :=
  multiReduction .maximumf [0, 2] S4 (logits s e) 0xFF800000#32 reduces_S8x4x2048_S4 (.inl rfl) rfl
/-- The exponentials of the logits' distances from the greatest. -/
def shares (s : Vec F S8x4x2048 .f32) (e : FVec F S8x1x2048 .f32) : FVec F S8x4x2048 .f32 :=
  exp (subf (logits s e) (broadcastTo S8x4x2048 (shapeCast S1x4x1 (greatest s e) shapeCasts_S4_S1x4x1) broadcasts_S1x4x1_S8x4x2048))
/-- The attention on the selected memories. -/
def selected (s : Vec F S8x4x2048 .f32) (e v : FVec F S8x1x2048 .f32) : FVec F S8x4x2048 .f32 :=
  mulf (divf (shares s e) (broadcastTo S8x4x2048 (total (shares s e)) broadcasts_S1x4x1_S8x4x2048))
    (broadcastTo S8x4x2048 (mulf (logistic (mulf (subf e (broadcast S8x1x2048 (Scalar.ofBits .f32 0x3F000000#32))) (broadcast S8x1x2048 (Scalar.ofBits .f32 0x41200000#32)))) v) broadcasts_S8x1x2048_S8x4x2048)
/-- The weights of one round. -/
def roundWeights (s : Vec F S8x4x2048 .f32) (e v : FVec F S8x1x2048 .f32) : FVec F S8x4x2048 .f32 :=
  divf (selected s e v) (broadcastTo S8x4x2048 (addf (total (selected s e v)) (broadcast S1x4x1 (Scalar.ofBits .f32 0x322BCC77#32))) broadcasts_S1x4x1_S8x4x2048)
/-- The decay of the priorities at each round. -/
def decay : ℕ → F .f32
  | 0 => Scalar.ofBits .f32 0x3F800000#32
  | 1 => Named.named κ "decay1" 0x3F666666#32
  | 2 => Named.named κ "decay2" 0x3F4F5C29#32
  | 3 => Named.named κ "decay3" 0x3F3A9FBE#32
  | 4 => Named.named κ "decay4" 0x3F27F62B#32
  | 5 => Named.named κ "decay5" 0x3F172A5A#32
  | 6 => Named.named κ "decay6" 0x3F080C84#32
  | 7 => Named.named κ "decay7" 0x3EF4E355#32
  | 8 => Named.named κ "decay8" 0x3EDC6633#32
  | _ => Named.named κ "decay9" 0x3EC65BFA#32
/-- The weights of the first `n` rounds added up. -/
def summed (s : Vec F S8x4x2048 .f32) (a v : FVec F S8x1x2048 .f32) : ℕ → FVec F S8x4x2048 .f32
  | 0 => broadcast S8x4x2048 (Scalar.ofBits .f32 0x00000000#32)
  | n + 1 => addf (summed s a v n) (roundWeights s (mulf a (broadcast S8x1x2048 (decay n))) v)

/-- The kernel's weights are ten rounds' weights added up. -/
theorem weights_eq (s : Vec F S8x4x2048 .f32) (p g v : Vec F S8x1x2048 .f32) :
    weights s p g v = k0_pay6 (summed s (k0_pay9 p g) (k0_pay10 v) 10) := rfl
end Generic

/-- The memory at row `n.1`, lane `n.2`, of batch row `b`. -/
abbrev mem (b : Fin 4) (n : Fin 8 × Fin 2048) : S8x4x2048.Idx := ix3 n.1 b n.2
/-- The memory at row `n.1`, lane `n.2`. -/
abbrev mem1 (n : Fin 8 × Fin 2048) : S8x1x2048.Idx := ix3 n.1 (0 : Fin 1) n.2

theorem mem_injective (b : Fin 4) : Function.Injective (mem b) := fun x y h =>
  Prod.ext (show mem b x 0 = mem b y 0 by rw [h]) (show mem b x 2 = mem b y 2 by rw [h])

/-- The memories of batch row `b` are the indices the two-axis reductions gather into `b`. -/
theorem memories (b : Fin 4) : (Finset.univ.filter fun i => reduces_S8x4x2048_S4.drop i = ix1 b) = Finset.univ.map ⟨mem b, mem_injective b⟩ := by
  have hd : ∀ i : S8x4x2048.Idx, reduces_S8x4x2048_S4.drop i = ix1 (i 1) := fun i => by
    funext a; match a with | ⟨0, _⟩ => rfl
  ext i
  simp only [Finset.mem_filter, Finset.mem_univ, true_and, Finset.mem_map, Function.Embedding.coeFn_mk, hd]
  constructor
  · intro h
    have h1 : i 1 = b := congrFun h 0
    exact ⟨(i 0, i 2), by subst h1; exact (eq_ix3 i).symm⟩
  · rintro ⟨n, rfl⟩; rfl

theorem total_apply (x : FVec Ideal S8x4x2048 .f32) (b : Fin 4) : total x (ix3 (0 : Fin 1) b (0 : Fin 1)) = ∑ n, x (mem b n) := by
  unfold total
  rw [shapeCast_apply _ _ _ (ix1 b) (by rw [Shape.rowMajor_val_one, Shape.rowMajor_val_three]; simp)]
  show ∑ i ∈ Finset.univ.filter (fun i => reduces_S8x4x2048_S4.drop i = ix1 b), x i = _
  rw [memories, Finset.sum_map]; rfl

theorem spread1 {α : Type} (x : S8x1x2048.Idx → α) (b : Fin 4) (n : Fin 8 × Fin 2048) :
    broadcastTo S8x4x2048 x broadcasts_S8x1x2048_S8x4x2048 (mem b n) = x (mem1 n) :=
  broadcastTo_apply _ _ _ _ fun a => match a with | ⟨0, _⟩ => rfl | ⟨1, _⟩ => rfl | ⟨2, _⟩ => rfl

theorem spread2 {α : Type} (x : S1x4x1.Idx → α) (b : Fin 4) (n : Fin 8 × Fin 2048) :
    broadcastTo S8x4x2048 x broadcasts_S1x4x1_S8x4x2048 (mem b n) = x (ix3 (0 : Fin 1) b (0 : Fin 1)) :=
  broadcastTo_apply _ _ _ _ fun a => match a with | ⟨0, _⟩ => rfl | ⟨1, _⟩ => rfl | ⟨2, _⟩ => rfl

variable (s : Vec Ideal S8x4x2048 .f32) (e v : FVec Ideal S8x1x2048 .f32) (b : Fin 4) (n : Fin 8 × Fin 2048)

theorem logits_apply : logits s e (mem b n) = logit (fun n => s (mem b n)) (fun n => e (mem1 n)) n := by
  unfold logits
  rw [addf_apply, spread1]; rfl

theorem greatest_apply : greatest s e (ix1 b)
    = peak (fun n => s (mem b n)) (fun n => e (mem1 n)) := by
  refine (multiReduction_maximumf_eq_fold _ _ _ _ _ _).trans ?_
  rw [memories, Finset.fold_map, show FloatOps.ofBits (F := Ideal) .f32 0xFF800000#32 = (⊥ : EReal) by simp [Ideal.ofBits, Ideal.ieee]]
  exact congrArg (fun f => Finset.univ.fold max (⊥ : EReal) f) (funext fun k => logits_apply s e b k)

theorem shares_apply : shares s e (mem b n) = share (fun n => s (mem b n)) (fun n => e (mem1 n)) n := by
  unfold shares share
  show Ideal.exp (logits s e (mem b n) - _) = _
  rw [spread2, shapeCast_apply _ _ _ (ix1 b) (by rw [Shape.rowMajor_val_one, Shape.rowMajor_val_three]; simp), logits_apply, greatest_apply]

theorem selected_apply : selected s e v (mem b n) = gated (fun n => s (mem b n)) (fun n => e (mem1 n)) (fun n => v (mem1 n)) n := by
  unfold selected gated attention
  rw [mulf_apply, divf_apply, spread1, spread2, total_apply, shares_apply, Finset.sum_congr rfl fun k _ => shares_apply s e b k]; rfl

/-- The weights of a round of the kernel are the round's weights over its memories. -/
theorem roundWeights_apply : roundWeights s e v (mem b n) = weight (fun n => s (mem b n)) (fun n => e (mem1 n)) (fun n => v (mem1 n)) n := by
  unfold roundWeights weight
  rw [divf_apply, spread2, addf_apply, total_apply, selected_apply, Finset.sum_congr rfl fun k _ => selected_apply s e v b k]; rfl

/-- The kernel's summed weights at a memory. -/
theorem summed_apply (a : FVec Ideal S8x1x2048 .f32) (k : ℕ) : summed s a v k (mem b n)
    = ∑ r ∈ Finset.range k, weight (fun n => s (mem b n)) (fun n => a (mem1 n) * decay (F := Ideal) r) (fun n => v (mem1 n)) n := by
  induction k with
  | zero => exact Ideal.ofBits_zero_f32
  | succ k ih =>
    rw [Finset.sum_range_succ, ← ih]
    show summed s a v k (mem b n) + roundWeights s (mulf a (broadcast S8x1x2048 (decay k))) v (mem b n) = _
    rw [roundWeights_apply]; rfl

end Cert.KernelIdeal.Hand

end
-- ==== Proof.Value.KernelValue.lean ====
module

public import proofs.«01_k».proof.Proof.Value.Blocks
public import proofs.«01_k».proof.Proof.Value.KernelRound
public import Idealize.ShloMosaic.Lib.MatmulPlain

/-! The kernel's result, entry by entry, over the extended reals. -/

@[expose] public section

set_option maxRecDepth 16384

noncomputable section

namespace Cert.KernelIdeal.Hand

open Cert.KernelIdeal Cert.KernelIdeal.Gen
open Idealize.ShloMosaic hiding ix1 ix2 ix3
open Idealize.ShloMosaic.TcCoe Idealize.ShloMosaic.StableHlo Idealize.ShloMosaic.ValueIdx
open Cert.Value

variable (m : (ℓ : Loc nD τ sig) → Buf (Elt Ideal) ℓ) (c : Dev nD)

/-! The inputs as launched. -/
abbrev in0 : S4x2048x768.Idx → EReal := m ((c : Thread nD τ).loc main_arg0)
abbrev in1 : S16384x768.Idx → EReal := m ((c : Thread nD τ).loc main_arg1)
abbrev in2 : S16384x768.Idx → EReal := m ((c : Thread nD τ).loc main_arg2)
abbrev in3 : S16384.Idx → EReal := m ((c : Thread nD τ).loc main_arg3)
abbrev in4 : S768x768.Idx → EReal := m ((c : Thread nD τ).loc main_arg4)
abbrev in5 : S768.Idx → EReal := m ((c : Thread nD τ).loc main_arg5)
abbrev in6 : S768x768.Idx → EReal := m ((c : Thread nD τ).loc main_arg6)
abbrev in7 : S768.Idx → EReal := m ((c : Thread nD τ).loc main_arg7)
abbrev in8 : IVec S16384 32 := m ((c : Thread nD τ).loc main_arg8)
abbrev in9 : IVec S16384 1 := m ((c : Thread nD τ).loc main_arg9)

/-- The number of the memory at row `n.1`, lane `n.2`. -/
def flat (n : Fin 8 × Fin 2048) : Fin 16384 := ⟨n.1.val * 2048 + n.2.val, by have := n.1.isLt; have := n.2.isLt; omega⟩

/-- A vector of the memories laid out in rows, at row `n.1`, lane `n.2`. -/
theorem rows_apply {α : Type} (x : S16384.Idx → α) (n : Fin 8 × Fin 2048) :
    shapeCast S8x1x2048 x shapeCasts_S16384_S8x1x2048 (mem1 n) = x (ix1 (flat n)) :=
  shapeCast_apply _ _ _ (ix1 (flat n)) (by rw [Shape.rowMajor_val_one, Shape.rowMajor_val_three]; simp [flat])

/-- A row repeated for every batch row. -/
theorem bias_apply (x : Vec Ideal S768 .f32) (b : Fin 4) (d : Fin 768) :
    broadcastTo S4x768 (shapeCast S1x768 (shapeCast S1x768 x shapeCasts_S768_S1x768) shapeCasts_S1x768_S1x768) broadcasts_S1x768_S4x768 (ix2 b d) = x (ix1 d) := by
  rw [shapeCast_self]
  refine (broadcastTo_apply _ _ _ (ix2 (0 : Fin 1) d) fun a => match a with | ⟨0, _⟩ => rfl | ⟨1, _⟩ => rfl).trans ?_
  exact shapeCast_apply _ _ _ (ix1 d) (by rw [Shape.rowMajor_val_one, Shape.rowMajor_val_two]; simp)

/-! ## The query -/

theorem pooled_succ (k : ℕ) (b : Fin 4) (d : Fin 768) :
    pooled m c (k + 1) (ix2 b d) = pooled m c k (ix2 b d) + ∑ t : Fin 256, (ins m c (pt k)).x (ix3 b t d) := by
  show k0_pay3 (pooled m c k) (ins m c (pt k)).x (ix2 b d) = _
  unfold k0_pay3
  rw [shapeCast_self, ValueIdx.addf_apply]
  refine congrArg (pooled m c k (ix2 b d) + ·) ((Ideal.multiReduction_add_single _ _ _ _ _ _).trans (Finset.sum_congr rfl fun t _ => ?_))
  exact congrArg (ins m c (pt k)).x (funext fun a => Fin.ext (by match a with | ⟨0, _⟩ => rfl | ⟨1, _⟩ => rfl | ⟨2, _⟩ => rfl))

theorem pooled_zero (b : Fin 4) (d : Fin 768) : pooled m c 0 (ix2 b d) = 0 := by
  show k0_pay1 (ix2 b d) = _
  unfold k0_pay1
  rw [shapeCast_self]
  exact Ideal.ofBits_zero_f32

theorem pooled_apply (k : ℕ) (b : Fin 4) (d : Fin 768) :
    pooled m c k (ix2 b d) = ∑ n ∈ Finset.range k, ∑ t : Fin 256, (ins m c (pt n)).x (ix3 b t d) := by
  induction k with
  | zero => exact pooled_zero m c b d
  | succ k ih => rw [Finset.sum_range_succ, pooled_succ, ih]

/-- The eight blocks' sums are the sum over all positions. -/
theorem pooled_all (b : Fin 4) (d : Fin 768) : pooled m c 8 (ix2 b d) = ∑ t, in0 m c (ix3 b t d) := by
  rw [pooled_apply, Finset.sum_range]
  exact Fin.sum_mul_add_congr (f := fun t : Fin 2048 => in0 m c (ix3 b t d))
    fun s k _ => x_apply m c s.val s.isLt b k d

theorem query_apply (b : Fin 4) (k : Fin 768) : query m c (ix2 b k)
    = (∑ j, (∑ t, in0 m c (ix3 b t j)) * Ideal.ofBits .f32 0x3A000000#32 * in4 m c (ix2 k j))
      + in5 m c (ix1 k) := by
  unfold query k0_pay4
  rw [shapeCast_self, ValueIdx.addf_apply, bq_eq, bias_apply, wq_eq]
  refine congrArg (· + _) ((Ideal.matmul_transposedRhs_apply (M := 4) (K := 768) (N := 768) none _ _ _ b k).trans ?_)
  refine (congrArg (· + _) Ideal.ofBits_zero_f32).trans ((zero_add _).trans (Finset.sum_congr rfl fun j _ => ?_))
  rw [ValueIdx.mulf_apply, pooled_all]; rfl

/-! ## The scores -/

theorem scores_apply (b : Fin 4) (n : Fin 8 × Fin 2048) : scores m c (mem b n)
    = (∑ k, query m c (ix2 b k) * in1 m c (ix2 (flat n) k)) * (((Real.sqrt 768)⁻¹ : ℝ) : EReal) := by
  show k0_pay5 (query m c) (ins m c (pt (8 + n.1.val))).k (ix3 (0 : Fin 1) b n.2) = _
  unfold k0_pay5
  rw [shapeCast_ab_1ab_apply, ValueIdx.mulf_apply]
  refine congrArg₂ (· * ·) ?_ (IdealRules.named_const.ideal_named_scalar _ _ _ _ rfl)
  refine (Ideal.matmul_transposedRhs_apply (M := 4) (K := 768) (N := 2048) none _ _ _ b n.2).trans ?_
  refine (congrArg (· + _) Ideal.ofBits_zero_f32).trans ((zero_add _).trans (Finset.sum_congr rfl fun k _ => ?_))
  exact congrArg (query m c (ix2 b k) * ·) (k_apply m c n.1.val n.1.isLt n.2 k)

/-! ## The weights -/

/-- The kernel's effective priority of a memory, before the decay of its round. -/
def effective (n : Fin 8 × Fin 2048) : EReal := in3 m c (ix1 (flat n))
  * Ideal.exp (sitofp (F := Ideal) .f32 ((in8 m c)) (ix1 (flat n)) * ((Real.log (9 / 10) : ℝ) : EReal))

theorem totalWeights_apply (b : Fin 4) (n : Fin 8 × Fin 2048) : totalWeights m c (mem b n)
    = ∑ r ∈ Finset.range 10, weight (fun n => scores m c (mem b n)) (fun n => effective m c n * decay (F := Ideal) r)
        (fun n => uitofp (F := Ideal) .f32 ((in9 m c)) (ix1 (flat n))) n := by
  unfold totalWeights
  rw [weights_eq]
  unfold k0_pay6
  rw [shapeCast_self, summed_apply]
  have he : ∀ n, k0_pay9 (ins m c (pt 16)).p (ins m c (pt 16)).g (mem1 n) = effective m c n := fun n => by
    unfold k0_pay9 effective
    rw [shapeCast_self, shapeCast_self, p_eq, g_eq, ValueIdx.mulf_apply, rows_apply]
    refine congrArg (in3 m c (ix1 (flat n)) * ·) ?_
    rw [exp_apply, ValueIdx.mulf_apply, rows_apply]
    refine congrArg Ideal.exp ?_
    exact congrArg (_ * ·) (IdealRules.named_const.ideal_named_scalar _ _ _ _ rfl)
  have hv : ∀ n, k0_pay10 (ins m c (pt 16)).v (mem1 n) = uitofp (F := Ideal) .f32 ((in9 m c)) (ix1 (flat n)) := fun n => by
    unfold k0_pay10
    rw [shapeCast_self, v_eq, rows_apply]
  simp only [he, hv]

/-! ## The retrieval -/

theorem gathered_succ (k : ℕ) (hk : k < 8) (b : Fin 4) (d : Fin 768) : gathered m c (k + 1) (ix2 b d)
    = gathered m c k (ix2 b d) + ∑ i : Fin 2048, totalWeights m c (mem b (⟨k, hk⟩, i)) * in2 m c (ix2 (flat (⟨k, hk⟩, i)) d) := by
  have e : (grid0.coords (pt (16 + k)) 1).val = k := by rw [coord1, pt_of _ (by omega)]; omega
  show k0_pay7 (gathered m c k) (VecWindow.window (totalWeights m c) ![(grid0.coords (pt (16 + k)) 1).val, 0, 0] S1x4x2048.size _) (ins m c (pt (16 + k))).u (ix2 b d) = _
  unfold k0_pay7
  rw [shapeCast_self, ValueIdx.addf_apply]
  refine congrArg (gathered m c k (ix2 b d) + ·) ((Ideal.matmul_plain_apply (M := 4) (K := 2048) (N := 768) none _ _ _ b d).trans ?_)
  refine (congrArg (· + _) Ideal.ofBits_zero_f32).trans ((zero_add _).trans (Finset.sum_congr rfl fun i _ => ?_))
  refine congrArg₂ (· * ·) ?_ (u_apply m c k hk i d)
  rw [shapeCast_1ab_ab_apply]
  refine congrArg (totalWeights m c) (funext fun a => Fin.ext ?_)
  match a with
  | ⟨0, _⟩ => exact (by rw [e]; rfl : (grid0.coords (pt (16 + k)) 1).val + 1 * 0 = k)
  | ⟨1, _⟩ => exact (by omega : 0 + 1 * b.val = b.val)
  | ⟨2, _⟩ => exact (by omega : 0 + 1 * i.val = i.val)

theorem gathered_zero (b : Fin 4) (d : Fin 768) : gathered m c 0 (ix2 b d) = 0 := by
  show k0_pay2 (ix2 b d) = _
  unfold k0_pay2
  rw [shapeCast_self]
  exact Ideal.ofBits_zero_f32

theorem gathered_apply (k : ℕ) (hk : k ≤ 8) (b : Fin 4) (d : Fin 768) : gathered m c k (ix2 b d)
    = ∑ j : Fin k, ∑ i : Fin 2048, totalWeights m c (mem b (⟨j.val, lt_of_lt_of_le j.isLt hk⟩, i)) * in2 m c (ix2 (flat (⟨j.val, lt_of_lt_of_le j.isLt hk⟩, i)) d) := by
  induction k with
  | zero => exact gathered_zero m c b d
  | succ k ih => rw [Fin.sum_univ_castSucc, gathered_succ m c k (by omega), ih (by omega)]; rfl

theorem gathered_all (b : Fin 4) (d : Fin 768) : gathered m c 8 (ix2 b d)
    = ∑ n, totalWeights m c (mem b n) * in2 m c (ix2 (flat n) d) := by
  rw [gathered_apply m c 8 le_rfl, Fintype.sum_prod_type]

/-- The kernel's result at an entry. -/
theorem result_apply (b : Fin 4) (d : Fin 768) : result m c (ix2 b d)
    = (∑ k, (∑ n, totalWeights m c (mem b n) * in2 m c (ix2 (flat n) k)) * in6 m c (ix2 d k)) * ((1 / 10 : ℝ) : EReal)
      + in7 m c (ix1 d) := by
  unfold result k0_pay8
  rw [ValueIdx.addf_apply, ValueIdx.mulf_apply, bc_eq, bias_apply, wc_eq]
  refine congrArg (· + _) (congrArg₂ (· * ·) ?_ (IdealRules.named_const.ideal_named_scalar _ _ _ _ rfl))
  refine (Ideal.matmul_transposedRhs_apply (M := 4) (K := 768) (N := 768) none _ _ _ b d).trans ?_
  refine (congrArg (· + _) Ideal.ofBits_zero_f32).trans ((zero_add _).trans (Finset.sum_congr rfl fun k _ => ?_))
  rw [gathered_all]

end Cert.KernelIdeal.Hand

end
-- ==== Proof.Value.Reference.lean ====
module

public import proofs.«01_k».proof.Proof.Gen.ReferenceIdeal.Run
public import proofs.«01_k».proof.Proof.Gen.ReferenceIdeal.Read
public import proofs.«01_k».proof.Proof.Value.Round
public import Idealize.ShloMosaic.Lib.ValueLayout
public import Idealize.ShloMosaic.Lib.IdealHost

/-! The reference's ten rounds as one round, repeated: each takes the ages of the round, and adds to the running sum the
    retrieval with the round's weights, projected. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo Idealize.ShloMosaic.ValueIdx
open Cert.Value

section Generic
variable {F : FTy → Type} [FloatOps F]

/-- One number at every memory. -/
abbrev atAll (w : BitVec 32) : Vec F S16384 .f32 := broadcastInDim S16384 ![] bcast_S_S16384 (constant S_ .f32 w)
/-- A row of numbers, one per memory, at every batch row. -/
abbrev atRows (x : Vec F S16384 .f32) : Vec F S4x16384 .f32 :=
  broadcastInDim S4x16384 ![0, 1] bcast_S1x16384_S4x16384_0_1 (broadcastInDim S1x16384 ![1] bcast_S16384_S1x16384_1 x)
/-- A column of numbers, one per batch row. -/
abbrev column (x : Vec F S4 .f32) : Vec F S4x1 .f32 := broadcastInDim S4x1 ![0] bcast_S4_S4x1_0 x
/-- It at every memory. -/
abbrev atMems (x : Vec F S4x1 .f32) : Vec F S4x16384 .f32 := broadcastInDim S4x16384 ![0, 1] bcast_S4x1_S4x16384_0_1 x
/-- The sum over the memories. -/
abbrev total (x : Vec F S4x16384 .f32) : Vec F S4 .f32 := Host.reduceAdd x (constant S_ .f32 0x00000000#32) reducesTo_S4x16384_S4_d1 h_S_

/-- The ages at round `n`. -/
def ages (x8 : Vec F S16384 .i32) : ℕ → Vec F S16384 .f32
  | 0 => val_main_v8 x8
  | n + 1 => addf (ages x8 n) (atAll 0x3F800000#32)
/-- The effective priorities at round `n`. -/
def effective (x3 : Vec F S16384 .f32) (x8 : Vec F S16384 .i32) (n : ℕ) : Vec F S16384 .f32 :=
  mulf x3 (Host.powf (val_main_v14 (F := F)) (ages x8 n))
/-- The attention logits as the reference computes them. -/
def logits (s : Vec F S4x16384 .f32) (e : Vec F S16384 .f32) : Vec F S4x16384 .f32 :=
  addf s (atRows (Host.log (addf e (atAll 0x322BCC77#32))))
/-- The greatest logit of each batch row. -/
def greatest (s : Vec F S4x16384 .f32) (e : Vec F S16384 .f32) : Vec F S4 .f32 :=
  maximumf (broadcastInDim S4 ![] bcast_S_S4 (constant S_ .f32 0xFF800000#32))
    (Host.reduce FloatOps.maximumf (logits s e) (constant S_ .f32 0xFF800000#32) reducesTo_S4x16384_S4_d1 h_S_)
/-- The exponentials of the logits' distances from the greatest. -/
def shares (s : Vec F S4x16384 .f32) (e : Vec F S16384 .f32) : Vec F S4x16384 .f32 :=
  Host.exp (subf (logits s e) (atMems (column (greatest s e))))
/-- The soft selection. -/
def selection (e v : Vec F S16384 .f32) : Vec F S16384 .f32 :=
  mulf (Host.divf (atAll 0x3F800000#32) (addf (atAll 0x3F800000#32) (Host.exp (Host.negf (mulf (subf e (atAll 0x3F000000#32)) (atAll 0x41200000#32)))))) v
/-- The attention on the selected memories. -/
def selected (s : Vec F S4x16384 .f32) (e v : Vec F S16384 .f32) : Vec F S4x16384 .f32 :=
  mulf (Host.divf (shares s e) (atMems (column (total (shares s e))))) (atRows (selection e v))
/-- The weights of one round. -/
def roundWeights (s : Vec F S4x16384 .f32) (e v : Vec F S16384 .f32) : Vec F S4x16384 .f32 :=
  Host.divf (selected s e v) (atMems (addf (column (total (selected s e v))) (broadcastInDim S4x1 ![] bcast_S_S4x1 (constant S_ .f32 0x322BCC77#32))))
/-- What one round retrieves with the weights `w`, projected. -/
def retrieved (w : Vec F S4x16384 .f32) (x2 : Vec F S16384x768 .f32) (x6 : Vec F S768x768 .f32) (x7 : Vec F S768 .f32) : Vec F S4x768 .f32 :=
  addf (Host.dotGeneral dot_S4x768_S768x768_S4x768_1_0_0_1_n_n none (Host.dotGeneral dot_S4x16384_S16384x768_S4x768_1_0_0_1_n_n none w x2) (transpose S768x768 [1, 0] x6 transposes_S768x768_S768x768_1_0))
    (broadcastInDim S4x768 ![0, 1] bcast_S1x768_S4x768_0_1 (broadcastInDim S1x768 ![1] bcast_S768_S1x768_1 x7))
variable (x0 : Vec F S4x2048x768 .f32) (x1 x2 : Vec F S16384x768 .f32) (x3 : Vec F S16384 .f32) (x4 : Vec F S768x768 .f32) (x5 : Vec F S768 .f32)
  (x6 : Vec F S768x768 .f32) (x7 : Vec F S768 .f32) (x8 : Vec F S16384 .i32) (x9 : Vec F S16384 .i1)

/-- The sum of the first `n` rounds. -/
def summed : ℕ → Vec F S4x768 .f32
  | 0 => val_main_v13 (F := F)
  | n + 1 => addf (summed n) (retrieved (roundWeights (val_main_v31 x0 x1 x4 x5) (effective x3 x8 n) (val_main_v9 x9)) x2 x6 x7)

/-- The reference is ten rounds added up, divided by ten. -/
theorem result_eq : val_main_v545 x0 x1 x2 x3 x4 x5 x6 x7 x8 x9
    = Host.divf (summed x0 x1 x2 x3 x4 x5 x6 x7 x8 x9 10) (val_main_v544 (F := F)) := rfl
end Generic

end Cert.ReferenceIdeal.Hand

end
-- ==== Proof.Value.ReferenceValue.lean ====
module

public import proofs.«01_k».proof.Proof.Value.Reference
public import Idealize.ShloMosaic.Lib.MatmulPlain

/-! The reference's result, entry by entry, over the extended reals. -/

@[expose] public section

set_option maxRecDepth 16384

noncomputable section

namespace Cert.ReferenceIdeal.Hand

open Cert.ReferenceIdeal Cert.ReferenceIdeal.Gen Cert.ReferenceIdeal.Read
open Idealize.ShloMosaic Idealize.ShloMosaic.TcCoe Idealize.ShloMosaic.StableHlo Idealize.ShloMosaic.ValueIdx
open Cert.Value

/-- A plain product of matrices read at an index. -/
theorem dot_apply {M K N : ℕ} (l : FVec Ideal ⟨2, ![M, K]⟩ .f32) (r : FVec Ideal ⟨2, ![K, N]⟩ .f32) (a : Fin M) (c : Fin N) :
    Host.dotGeneral (DotDims.plain M K N) none l r (ix2 a c) = ∑ k : Fin K, l (ix2 a k) * r (ix2 k c) := by
  simp only [Host.dotGeneral]
  exact (Ideal.matmul_plain_apply none l r 0 a c).trans (zero_add _)

theorem atRows_apply (x : Vec Ideal S16384 .f32) (b : Fin 4) (n : Fin 16384) : atRows x (ix2 b n) = x (ix1 n) :=
  (broadcastInDim_apply _ _ _ _ (ix2 (0 : Fin 1) n) fun a => match a with | ⟨0, _⟩ => rfl | ⟨1, _⟩ => rfl).trans
    (broadcastInDim_apply _ _ _ _ (ix1 n) fun a => match a with | ⟨0, _⟩ => rfl)

theorem atMems_apply (x : Vec Ideal S4x1 .f32) (b : Fin 4) (n : Fin 16384) : atMems x (ix2 b n) = x (ix2 b (0 : Fin 1)) :=
  broadcastInDim_apply _ _ _ _ _ fun a => match a with | ⟨0, _⟩ => rfl | ⟨1, _⟩ => rfl

theorem column_apply (x : Vec Ideal S4 .f32) (b : Fin 4) : column x (ix2 b (0 : Fin 1)) = x (ix1 b) :=
  broadcastInDim_apply _ _ _ _ _ fun a => match a with | ⟨0, _⟩ => rfl

theorem total_apply (x : Vec Ideal S4x16384 .f32) (b : Fin 4) : total x (ix1 b) = ∑ n, x (ix2 b n) := by
  refine (hostReduceAdd_apply x _ _ _ (ix1 b)).trans ?_
  rw [Ideal.hostReduceAdd_single reducesTo_S4x16384_S4_d1 (by decide), constant_apply, Ideal.ofBits_zero_f32, zero_add]
  exact Finset.sum_congr rfl fun n _ => congrArg x (funext fun a => Fin.ext (by match a with | ⟨0, _⟩ => rfl | ⟨1, _⟩ => rfl))

/-- The pattern of minus infinity. -/
theorem ofBits_bot : Ideal.ofBits .f32 0xFF800000#32 = (⊥ : EReal) := by simp [Ideal.ofBits, Ideal.ieee]
/-- The pattern of one. -/
theorem ofBits_one : Ideal.ofBits .f32 0x3F800000#32 = (1 : EReal) := by
  rw [show (1 : EReal) = ((1 : ℝ) : EReal) by norm_cast]
  simp [Ideal.ofBits, Ideal.ieee, -EReal.coe_mul]; norm_num

section Round
variable (s : Vec Ideal S4x16384 .f32) (e v : Vec Ideal S16384 .f32) (b : Fin 4) (n : Fin 16384)

theorem logits_apply : logits s e (ix2 b n) = logit (fun n => s (ix2 b n)) (fun n => e (ix1 n)) n := by
  unfold logits
  rw [addf_apply, atRows_apply]; rfl

theorem greatest_apply : greatest s e (ix1 b) = peak (fun n => s (ix2 b n)) (fun n => e (ix1 n)) := by
  unfold greatest
  rw [maximumf_apply, Host.reduce_eq_fold_single _ _ _ _ (by decide)]
  refine (congrArg₂ max ofBits_bot (congrArg (fun z : EReal => Finset.univ.fold max z _) ofBits_bot)).trans ?_
  rw [max_eq_right bot_le]
  refine (Finset.fold_congr (g := logit (fun n => s (ix2 b n)) (fun n => e (ix1 n))) fun k _ => ?_ : _ = Finset.univ.fold max (⊥ : EReal) _)
  refine Eq.trans ?_ (logits_apply s e b k)
  exact congrArg (logits s e) (funext fun a => Fin.ext (by match a with | ⟨0, _⟩ => rfl | ⟨1, _⟩ => rfl))

theorem shares_apply : shares s e (ix2 b n) = share (fun n => s (ix2 b n)) (fun n => e (ix1 n)) n := by
  unfold shares share
  show Ideal.exp (logits s e (ix2 b n) - _) = _
  rw [atMems_apply, column_apply, logits_apply, greatest_apply]

theorem selection_apply : selection e v (ix1 n) = active (fun n => e (ix1 n)) (fun n => v (ix1 n)) n := by
  unfold selection active Ideal.logistic
  show Ideal.div (Ideal.ofBits .f32 0x3F800000#32) (Ideal.ofBits .f32 0x3F800000#32 + _) * _ = _
  rw [ofBits_one]; rfl

theorem selected_apply : selected s e v (ix2 b n) = gated (fun n => s (ix2 b n)) (fun n => e (ix1 n)) (fun n => v (ix1 n)) n := by
  unfold selected gated attention
  rw [mulf_apply, hostDivf_apply, atRows_apply, atMems_apply, column_apply, total_apply, shares_apply, selection_apply,
    Finset.sum_congr rfl fun k _ => shares_apply s e b k]

/-- The weights of a round of the reference are the round's weights over its memories. -/
theorem roundWeights_apply : roundWeights s e v (ix2 b n) = weight (fun n => s (ix2 b n)) (fun n => e (ix1 n)) (fun n => v (ix1 n)) n := by
  unfold roundWeights weight
  rw [hostDivf_apply, atMems_apply, addf_apply, column_apply, total_apply, selected_apply, Finset.sum_congr rfl fun k _ => selected_apply s e v b k]
  rfl
end Round

/-- What a round retrieves: the weighted sum of the values, through the output projection, and its bias. -/
theorem retrieved_apply (w : Vec Ideal S4x16384 .f32) (x2 : Vec Ideal S16384x768 .f32) (x6 : Vec Ideal S768x768 .f32) (x7 : Vec Ideal S768 .f32)
    (b : Fin 4) (d : Fin 768) :
    retrieved w x2 x6 x7 (ix2 b d) = (∑ k, (∑ n, w (ix2 b n) * x2 (ix2 n k)) * x6 (ix2 d k)) + x7 (ix1 d) := by
  unfold retrieved
  rw [addf_apply]
  refine congrArg₂ (· + ·) ?_ ?_
  · refine (dot_apply (M := 4) (K := 768) (N := 768) _ _ b d).trans (Finset.sum_congr rfl fun k _ => ?_)
    refine congrArg₂ (· * ·) (dot_apply (M := 4) (K := 16384) (N := 768) w x2 b k) ?_
    exact transpose_ix2_apply x6 _ k d
  · exact (broadcastInDim_apply _ _ _ _ (ix2 (0 : Fin 1) d) fun a => match a with | ⟨0, _⟩ => rfl | ⟨1, _⟩ => rfl).trans
      (broadcastInDim_apply _ _ _ _ (ix1 d) fun a => match a with | ⟨0, _⟩ => rfl)

variable (x0 : Vec Ideal S4x2048x768 .f32) (x1 x2 : Vec Ideal S16384x768 .f32) (x3 : Vec Ideal S16384 .f32) (x4 : Vec Ideal S768x768 .f32) (x5 : Vec Ideal S768 .f32)
  (x6 : Vec Ideal S768x768 .f32) (x7 : Vec Ideal S768 .f32) (x8 : Vec Ideal S16384 .i32) (x9 : Vec Ideal S16384 .i1)

/-- The projected query. -/
def query (b : Fin 4) (k : Fin 768) : EReal :=
  (∑ j, Ideal.div (∑ t, x0 (ix3 b t j)) (Ideal.ofBits .f32 0x45000000#32) * x4 (ix2 k j)) + x5 (ix1 k)

theorem query_apply (b : Fin 4) (k : Fin 768) : val_main_v7 x0 x4 x5 (ix2 b k) = query x0 x4 x5 b k := by
  rw [val_main_v7_apply]
  refine congrArg₂ (· + ·) ?_ ?_
  · refine (dot_apply (M := 4) (K := 768) (N := 768) _ _ b k).trans (Finset.sum_congr rfl fun j _ => ?_)
    refine congrArg₂ (· * ·) ?_ (transpose_ix2_apply x4 _ j k)
    rw [val_main_v2_apply, val_main_v0_apply]
    refine congrArg₂ Ideal.div ?_ rfl
    refine (congrArg (· + _) Ideal.ofBits_zero_f32).trans ((zero_add _).trans (Finset.sum_congr rfl fun t _ => ?_))
    exact congrArg x0 (funext fun a => Fin.ext (by match a with | ⟨0, _⟩ => rfl | ⟨1, _⟩ => rfl | ⟨2, _⟩ => rfl))
  · exact (broadcastInDim_apply _ _ _ _ (ix2 (0 : Fin 1) k) fun a => match a with | ⟨0, _⟩ => rfl | ⟨1, _⟩ => rfl).trans
      (broadcastInDim_apply _ _ _ _ (ix1 k) fun a => match a with | ⟨0, _⟩ => rfl)

/-- The scores of the query against the keys. -/
theorem scores_apply (b : Fin 4) (n : Fin 16384) : val_main_v31 x0 x1 x4 x5 (ix2 b n)
    = (∑ k, query x0 x4 x5 b k * x1 (ix2 n k)) * Ideal.div (Ideal.ofBits .f32 0x3F800000#32) (Ideal.sqrt (Ideal.ofBits .f32 0x44400000#32)) := by
  rw [val_main_v31_apply]
  refine congrArg₂ (· * ·) ?_ ?_
  · refine (dot_apply (M := 4) (K := 768) (N := 16384) _ _ b n).trans (Finset.sum_congr rfl fun k _ => ?_)
    exact congrArg₂ (· * ·) (query_apply x0 x4 x5 b k) (transpose_ix2_apply x1 _ k n)
  · exact broadcastInDim_scalar_apply _ _ _

/-- The sum of the first `k` rounds. -/
theorem summed_apply (b : Fin 4) (d : Fin 768) (k : ℕ) : summed x0 x1 x2 x3 x4 x5 x6 x7 x8 x9 k (ix2 b d)
    = ∑ r ∈ Finset.range k, ((∑ k, (∑ n, weight (fun n => val_main_v31 x0 x1 x4 x5 (ix2 b n)) (fun n => effective x3 x8 r (ix1 n))
        (fun n => val_main_v9 (F := Ideal) x9 (ix1 n)) n * x2 (ix2 n k)) * x6 (ix2 d k)) + x7 (ix1 d)) := by
  induction k with
  | zero => exact (broadcastInDim_scalar_apply bcast_S_S4x768 (val_main_cst_5 (F := Ideal)) (ix2 b d)).trans Ideal.ofBits_zero_f32
  | succ k ih =>
    rw [Finset.sum_range_succ, ← ih]
    show summed x0 x1 x2 x3 x4 x5 x6 x7 x8 x9 k (ix2 b d) + retrieved _ x2 x6 x7 (ix2 b d) = _
    rw [retrieved_apply]
    simp only [roundWeights_apply]

/-- The reference's result: its ten rounds added up and divided by ten. -/
theorem result_apply (b : Fin 4) (d : Fin 768) : val_main_v545 x0 x1 x2 x3 x4 x5 x6 x7 x8 x9 (ix2 b d)
    = Ideal.div (∑ r ∈ Finset.range 10, ((∑ k, (∑ n, weight (fun n => val_main_v31 x0 x1 x4 x5 (ix2 b n)) (fun n => effective x3 x8 r (ix1 n))
        (fun n => val_main_v9 (F := Ideal) x9 (ix1 n)) n * x2 (ix2 n k)) * x6 (ix2 d k)) + x7 (ix1 d))) (Ideal.ofBits .f32 0x41200000#32) := by
  rw [result_eq, hostDivf_apply, summed_apply]
  exact congrArg (Ideal.div _) (broadcastInDim_scalar_apply _ _ _)

end Cert.ReferenceIdeal.Hand

end
-- ==== Proof.Value.Fuse.lean ====
module

public import proofs.«01_k».proof.Proof.Value.Round
public import Idealize.ShloMosaic.PureOps.Ideal.Laws

/-! The arithmetic that tells the kernel from the reference, over the extended reals and without either program:
    one retrieval with the summed weights of ten rounds against the mean of ten retrievals, and an exponential scaled
    round by round against a power of the age. -/

@[expose] public section

noncomputable section

namespace Cert.Value

open Idealize.ShloMosaic

variable {ι κ : Type} [Fintype ι] [Fintype κ]

/-! ## The constants -/

theorem ofBits_two_pow_eleven : Ideal.ofBits .f32 0x45000000#32 = ((2048 : ℝ) : EReal) := by
  simp [Ideal.ofBits, Ideal.ieee, -EReal.coe_mul]; norm_num
theorem ofBits_inv_two_pow_eleven : Ideal.ofBits .f32 0x3A000000#32 = ((1 / 2048 : ℝ) : EReal) := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num
theorem ofBits_nine : Ideal.ofBits .f32 0x41100000#32 = ((9 : ℝ) : EReal) := by
  simp [Ideal.ofBits, Ideal.ieee, -EReal.coe_mul]; norm_num
theorem ofBits_unit : Ideal.ofBits .f32 0x3F800000#32 = ((1 : ℝ) : EReal) := by
  simp [Ideal.ofBits, Ideal.ieee, -EReal.coe_mul]; norm_num
theorem ofBits_width : Ideal.ofBits .f32 0x44400000#32 = ((768 : ℝ) : EReal) := by
  simp [Ideal.ofBits, Ideal.ieee, -EReal.coe_mul]; norm_num

/-- The reference divides by the square root of the width. -/
theorem scale_eq : Ideal.div (Ideal.ofBits .f32 0x3F800000#32) (Ideal.sqrt (Ideal.ofBits .f32 0x44400000#32)) = (((Real.sqrt 768)⁻¹ : ℝ) : EReal) := by
  rw [ofBits_unit, ofBits_width, Ideal.sqrt_coe, if_neg (by norm_num), Ideal.div_coe (by positivity), ← EReal.coe_mul]
  norm_num

/-- The mean over the positions, as a product. -/
theorem mean_eq (x : EReal) : Ideal.div x (Ideal.ofBits .f32 0x45000000#32) = x * Ideal.ofBits .f32 0x3A000000#32 := by
  rw [ofBits_two_pow_eleven, ofBits_inv_two_pow_eleven, Ideal.div_coe (by norm_num)]

/-! ## The decay -/

/-- A power of nine tenths at an age grown by whole steps, as an exponential times a power. -/
theorem decay_eq (a : ℝ) (r : ℕ) : Ideal.pow (Ideal.div (Ideal.ofBits .f32 0x41100000#32) (Ideal.ofBits .f32 0x41200000#32)) ((a + r : ℝ) : EReal)
    = Ideal.exp ((a : EReal) * ((Real.log (9 / 10) : ℝ) : EReal)) * (((9 / 10 : ℝ) ^ r : ℝ) : EReal) := by
  rw [ofBits_nine, ofBits_ten, Ideal.div_coe (by norm_num), ← EReal.coe_mul, Ideal.pow_coe_coe, ← EReal.coe_mul, Ideal.exp_coe, ← EReal.coe_mul]
  refine congrArg _ ?_
  show ((9 * (1 / 10) : ℝ)) ^ (a + (r : ℝ)) = _
  rw [show (9 * (1 / 10) : ℝ) = 9 / 10 by norm_num, Real.rpow_add (by norm_num), Real.rpow_natCast, Real.rpow_def_of_pos (by norm_num), mul_comm a]

/-! ## The retrievals -/

/-- A retrieval with real weights, values and projection is real. -/
theorem retrieval_coe (w : ι → ℝ) (u : ι → κ → ℝ) (p : κ → ℝ) :
    (∑ k, (∑ n, (w n : EReal) * (u n k : EReal)) * (p k : EReal)) = ((∑ k, (∑ n, w n * u n k) * p k : ℝ) : EReal) := by
  rw [coe_sum]
  refine Finset.sum_congr rfl fun k _ => ?_
  rw [EReal.coe_mul, coe_sum]
  refine congrArg (· * _) (Finset.sum_congr rfl fun n _ => ?_)
  rw [EReal.coe_mul]

/-- The mean of ten real numbers each added to one bias is their mean added to the bias, infinite or not. -/
theorem mean_add (a : ℕ → ℝ) (β : EReal) :
    Ideal.div (∑ r ∈ Finset.range 10, ((a r : EReal) + β)) ((10 : ℝ) : EReal) = ((∑ r ∈ Finset.range 10, a r : ℝ) : EReal) * ((1 / 10 : ℝ) : EReal) + β := by
  rw [Ideal.div_coe (by norm_num), ← EReal.coe_mul]
  induction β with
  | bot =>
    have h : ∑ r ∈ Finset.range 10, ((a r : EReal) + ⊥) = ⊥ := by
      simp only [Finset.sum_range_succ, Finset.sum_range_zero, EReal.add_bot]
    rw [h, EReal.bot_mul_coe_of_pos (by norm_num), EReal.add_bot]
  | coe b =>
    simp only [← EReal.coe_add, ← coe_sum, ← EReal.coe_mul]
    refine congrArg _ ?_
    rw [Finset.sum_add_distrib, Finset.sum_const, Finset.card_range, nsmul_eq_mul]
    push_cast; ring
  | top =>
    have h : ∑ r ∈ Finset.range 10, ((a r : EReal) + ⊤) = ⊤ := by
      simp only [Finset.sum_range_succ, Finset.sum_range_zero, EReal.coe_add_top, zero_add, EReal.top_add_top]
    rw [h, EReal.top_mul_coe_of_pos (by norm_num), EReal.coe_add_top]

/-- One retrieval with the weights of ten rounds added up, scaled and biased once, is the mean of the ten biased
    retrievals, where the weights, the values and the projection are real. -/
theorem fuse (w : ℕ → ι → EReal) (u : ι → κ → EReal) (p : κ → EReal) (β : EReal) (hw : ∀ r n, ∃ x : ℝ, w r n = x)
    (hu : ∀ n k, ∃ x : ℝ, u n k = x) (hp : ∀ k, ∃ x : ℝ, p k = x) :
    (∑ k, (∑ n, (∑ r ∈ Finset.range 10, w r n) * u n k) * p k) * ((1 / 10 : ℝ) : EReal) + β
      = Ideal.div (∑ r ∈ Finset.range 10, ((∑ k, (∑ n, w r n * u n k) * p k) + β)) ((10 : ℝ) : EReal) := by
  choose w' hw using hw
  choose u' hu using hu
  choose p' hp using hp
  obtain rfl : w = fun r n => (w' r n : EReal) := funext fun r => funext fun n => hw r n
  obtain rfl : u = fun n k => (u' n k : EReal) := funext fun n => funext fun k => hu n k
  obtain rfl : p = fun k => (p' k : EReal) := funext hp
  simp only [← coe_sum]
  rw [retrieval_coe]
  simp only [retrieval_coe]
  rw [mean_add]
  refine congrArg (fun z : ℝ => (z : EReal) * _ + β) ?_
  rw [Finset.sum_comm]
  refine Finset.sum_congr rfl fun k _ => ?_
  rw [← Finset.sum_mul, Finset.sum_comm]
  simp only [Finset.sum_mul]

end Cert.Value

end
-- ==== Proof.Value.Equal.lean ====
module

public import proofs.«01_k».proof.Proof.Value.KernelValue
public import proofs.«01_k».proof.Proof.Value.ReferenceValue
public import proofs.«01_k».proof.Proof.Value.Fuse

/-! The kernel's result is the reference's, entry by entry, where the stored values and the output projection are real. -/

@[expose] public section

set_option maxRecDepth 16384

noncomputable section

namespace Cert.Value

open Cert.KernelIdeal Cert.KernelIdeal.Gen Cert.KernelIdeal.Hand
open Idealize.ShloMosaic hiding ix1 ix2 ix3
open Idealize.ShloMosaic.TcCoe Idealize.ShloMosaic.ValueIdx

variable (m : (ℓ : Loc nD τ sig) → Buf (Elt Ideal) ℓ) (c : Dev nD)

/-- The kernel's rows of memories and the reference's one row hold the same memories. -/
def flatEquiv : Fin 8 × Fin 2048 ≃ Fin 16384 := finProdFinEquiv

theorem flat_eq (n : Fin 8 × Fin 2048) : flat n = flatEquiv n := Fin.ext (by
  show n.1.val * 2048 + n.2.val = n.2.val + 2048 * n.1.val
  omega)

theorem query_eq (b : Fin 4) (k : Fin 768) :
    query m c (ix2 b k) = Cert.ReferenceIdeal.Hand.query (in0 m c) (in4 m c) (in5 m c) b k := by
  rw [query_apply]
  unfold Cert.ReferenceIdeal.Hand.query
  simp only [mean_eq]

/-- The two programs' scores. -/
theorem scores_eq (b : Fin 4) (n : Fin 8 × Fin 2048) :
    scores m c (mem b n) = Cert.ReferenceIdeal.Read.val_main_v31 (F := Ideal) (in0 m c) (in1 m c) (in4 m c) (in5 m c) (ix2 b (flatEquiv n)) := by
  rw [scores_apply, Cert.ReferenceIdeal.Hand.scores_apply, scale_eq, flat_eq]
  simp only [query_eq]

/-- The ages of a round. -/
theorem ages_apply (x8 : IVec S16384 32) (r : ℕ) (n : Fin 16384) :
    Cert.ReferenceIdeal.Hand.ages (F := Ideal) x8 r (ix1 n) = ((((x8 (ix1 n)).toInt : ℝ) + (r : ℝ) : ℝ) : EReal) := by
  induction r with
  | zero => rw [Nat.cast_zero, add_zero]; rfl
  | succ r ih =>
    show Cert.ReferenceIdeal.Hand.ages (F := Ideal) x8 r (ix1 n) + _ = _
    rw [ih]
    refine (congrArg (_ + ·) ((broadcastInDim_scalar_apply _ _ _).trans ofBits_unit)).trans ?_
    rw [← EReal.coe_add]
    refine congrArg _ ?_
    push_cast; ring

theorem decay_apply (r : ℕ) (h : r < 10) : decay (F := Ideal) r = (((9 / 10 : ℝ) ^ r : ℝ) : EReal) := by
  interval_cases r
  · exact ofBits_unit.trans (by norm_num)
  all_goals exact (IdealRules.named_const.ideal_named_scalar _ _ _ _ rfl).trans (congrArg _ (by norm_num))

/-- The two programs' effective priorities. -/
theorem effective_eq (r : ℕ) (h : r < 10) (n : Fin 8 × Fin 2048) : effective m c n * decay (F := Ideal) r
    = Cert.ReferenceIdeal.Hand.effective (F := Ideal) (in3 m c) (in8 m c) r (ix1 (flatEquiv n)) := by
  unfold effective Cert.ReferenceIdeal.Hand.effective
  rw [mul_assoc, decay_apply r h, flat_eq]
  refine congrArg (in3 m c (ix1 (flatEquiv n)) * ·) ?_
  refine (decay_eq (((in8 m c) (ix1 (flatEquiv n))).toInt : ℝ) r).symm.trans ?_
  exact congrArg₂ Ideal.pow (Cert.ReferenceIdeal.Read.val_main_v14_apply (F := Ideal) _).symm (ages_apply (in8 m c) r (flatEquiv n)).symm

/-- The weights of a round of the reference. -/
def roundWeight (b : Fin 4) (r : ℕ) : Fin 16384 → EReal :=
  weight (fun n => Cert.ReferenceIdeal.Read.val_main_v31 (F := Ideal) (in0 m c) (in1 m c) (in4 m c) (in5 m c) (ix2 b n))
    (fun n => Cert.ReferenceIdeal.Hand.effective (F := Ideal) (in3 m c) (in8 m c) r (ix1 n))
    (fun n => Cert.ReferenceIdeal.Read.val_main_v9 (F := Ideal) (in9 m c) (ix1 n))

theorem roundWeight_real (b : Fin 4) (r : ℕ) (n : Fin 16384) : ∃ x : ℝ, roundWeight m c b r n = x := by
  obtain ⟨x, _, e⟩ := weight_nonneg (fun n => Cert.ReferenceIdeal.Read.val_main_v31 (F := Ideal) (in0 m c) (in1 m c) (in4 m c) (in5 m c) (ix2 b n))
    (fun n => Cert.ReferenceIdeal.Hand.effective (F := Ideal) (in3 m c) (in8 m c) r (ix1 n))
    (fun n => Cert.ReferenceIdeal.Read.val_main_v9 (F := Ideal) (in9 m c) (ix1 n))
    (fun n => ⟨(((in9 m c) (ix1 n)).toNat : ℝ), by positivity, rfl⟩) n
  exact ⟨x, e⟩

/-- The kernel's added weights are the reference's, round by round. -/
theorem totalWeights_eq (b : Fin 4) (n : Fin 8 × Fin 2048) :
    totalWeights m c (mem b n) = ∑ r ∈ Finset.range 10, roundWeight m c b r (flatEquiv n) := by
  rw [totalWeights_apply]
  refine Finset.sum_congr rfl fun r hr => ?_
  refine Eq.trans ?_ (weight_comp flatEquiv _ _ _ n)
  simp only [scores_eq, effective_eq m c r (Finset.mem_range.1 hr), flat_eq]
  rfl

/-- The two results. -/
theorem result_eq (hu : ∀ i, ∃ x : ℝ, in2 m c i = (x : EReal)) (hp : ∀ i, ∃ x : ℝ, in6 m c i = (x : EReal)) :
    result m c = Cert.ReferenceIdeal.Read.val_main_v545 (F := Ideal) (in0 m c) (in1 m c) (in2 m c) (in3 m c) (in4 m c) (in5 m c) (in6 m c) (in7 m c) (in8 m c) (in9 m c) := by
  funext i
  obtain ⟨b, d, rfl⟩ : ∃ b d, i = ix2 b d := ⟨i 0, i 1, ValueIdx.eq_ix2 i⟩
  rw [Cert.ReferenceIdeal.Hand.result_apply, result_apply, ofBits_ten]
  refine Eq.trans ?_ (fuse (fun r n => roundWeight m c b r n) (fun n k => in2 m c (ix2 n k)) (fun k => in6 m c (ix2 d k)) (in7 m c (ix1 d))
    (fun r n => roundWeight_real m c b r n) (fun n k => hu _) (fun k => hp _))
  refine congrArg (· * _ + _) (Finset.sum_congr rfl fun k _ => congrArg (· * _) ?_)
  simp only [totalWeights_eq, flat_eq]
  exact Equiv.sum_comp flatEquiv (fun n => (∑ r ∈ Finset.range 10, roundWeight m c b r n) * in2 m c (ix2 n k))

end Cert.Value

end
-- ==== Proof.Value.Finite.lean ====
module

public import proofs.«01_k».proof.Proof.Gen.Pre_finite_values
public import Idealize.ShloMosaic.PureOps.Ideal
public import Idealize.ShloMosaic.Lib.ReduceAll
public import Idealize.ShloMosaic.Lib.StableHlo.Predicate

/-! What the precondition says of the arguments: the stored values and the output projection are real numbers. -/

@[expose] public section

noncomputable section

namespace Cert.Value

open Idealize.ShloMosaic Cert.Pre_finite_values

/-- A number whose size is below infinity is real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  rw [ht] at h
  induction x with
  | bot => exact absurd h (by simp [FloatOps.cmpf, FloatOps.hostAbsf, Ideal.cmp])
  | coe r => exact ⟨r, rfl⟩
  | top => exact absurd h (by simp [FloatOps.cmpf, FloatOps.hostAbsf, Ideal.cmp])

variable (x0 : FVec Ideal S4x2048x768 .f32) (x1 x2 : FVec Ideal S16384x768 .f32) (x3 : FVec Ideal S16384 .f32) (x4 : FVec Ideal S768x768 .f32)
  (x5 : FVec Ideal S768 .f32) (x6 : FVec Ideal S768x768 .f32) (x7 : FVec Ideal S768 .f32) (x8 : IVec S16384 32) (x9 : IVec S16384 1)

theorem finite_of_pre (h : fn (F := Ideal) x0 x1 x2 x3 x4 x5 x6 x7 x8 x9 = fun _ => 1#1) :
    (∀ i, ∃ r : ℝ, x2 i = (r : EReal)) ∧ ∀ i, ∃ r : ℝ, x6 i = (r : EReal) := by
  have hs : Subsingleton S_.Idx := ⟨fun a b => funext fun k => k.elim0⟩
  have h0 := IntOp.andi_eq_one.1 (congrFun h (fun k => k.elim0))
  exact ⟨fun i => real_of_lt _ (Host.reduce_andi_all _ _ _ _ _ h0.1 i), fun i => real_of_lt _ (Host.reduce_andi_all _ _ _ _ _ h0.2 i)⟩

end Cert.Value

end
-- ==== Proof.Algebraic.lean ====
module

public import proofs.«01_k».proof.Proof.Frames
public import proofs.«01_k».proof.Proof.Value.Equal
public import proofs.«01_k».proof.Proof.Value.Finite

/-! The kernel and the reference end with the same result. -/

@[expose] public section

set_option maxRecDepth 16384

noncomputable section

namespace Cert.Proof

open Idealize.ShloMosaic Idealize.SL.Sem Idealize.ShloMosaic.TcCoe Cert.Value

section Kernel
open Cert.KernelIdeal

/-- The kernel's run, its result named. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0) = Hand.result m c) :=
  (θ_run defs _ _).mono (fun _ h c => (Pipeline.FramePost.out_eq h c 10).trans (Hand.final m c)) (Hand.main_post m ρ)

end Kernel

theorem algebraic : Cert.algebraic_KernelIdeal_ReferenceIdeal_pre_finite_values := by
  intro m g m' g' hpre hargs
  refine ⟨fun c => Cert.KernelIdeal.Hand.result m c, ?_, ?_⟩
  · exact (θ_run Cert.KernelIdeal.defs _ _).mono (fun _ h c => ⟨h.1 c, h.2.1 c⟩) (θ_run_and (kernel_run m g) (Cert.KernelIdeal.Hand.frame_main m g))
  · refine (θ_run Cert.ReferenceIdeal.defs _ _).mono (fun _ h c => ⟨(h c).1.trans ?_, (h c).2⟩) (Cert.ReferenceIdeal.Value.run (F := Ideal) m' g')
    obtain ⟨h0, h1, h2, h3, h4, h5, h6, h7, h8, h9⟩ := hargs c
    obtain ⟨hu, hp⟩ := finite_of_pre _ _ _ _ _ _ _ _ _ _ (hpre c)
    refine (Cert.ReferenceIdeal.Read.val_main_v545_eq (StableHlo.launchContents m' c)).trans ?_
    show Cert.ReferenceIdeal.Read.val_main_v545 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9)) = _
    rw [h0, h1, h2, h3, h4, h5, h6, h7, h8, h9]
    exact (Cert.Value.result_eq m c hu hp).symm

end Cert.Proof

end
-- ==== Proof.lean ====
module

public import proofs.«01_k».proof.Proof.Algebraic
public import proofs.«01_k».proof.Proof.Gen.ReferenceIdeal.Read
public import proofs.«01_k».proof.Proof.Gen.Pre_finite_values

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_values.Gen.facts, frame_kernel, frame_ideal,
    fun m ρ _ => frame_ideal m ρ trivial, frame_reference, fun m ρ _ => frame_reference m ρ trivial, preserves, algebraic⟩

end Cert.Proof

end
